-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_scores_finite_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_

variable [Facts]

def fn {F : FTy → Type} [FloatOps F] (main_arg0 : FVec F S16x1x16x64 .f32) (main_arg1 : FVec F S16x2048x16x64 .f32) (main_arg2 : FVec F S16x2048x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S16x16x64x1024 : Shape := ⟨4, ![16, 16, 64, 1024]⟩
abbrev S16x1024 : Shape := ⟨2, ![16, 1024]⟩
abbrev S16x2x64x1024 : Shape := ⟨4, ![16, 2, 64, 1024]⟩
abbrev S8x16x2 : Shape := ⟨3, ![8, 16, 2]⟩
abbrev S16x16x64x1 : Shape := ⟨4, ![16, 16, 64, 1]⟩
abbrev S2x16x1024 : Shape := ⟨3, ![2, 16, 1024]⟩
abbrev S2x2x8x16x2 : Shape := ⟨5, ![2, 2, 8, 16, 2]⟩
abbrev S2 : Shape := ⟨1, ![2]⟩
abbrev S2x128 : Shape := ⟨2, ![2, 128]⟩
abbrev S16x16x64 : Shape := ⟨3, ![16, 16, 64]⟩
abbrev S_ : Shape := ⟨0, ![]⟩
abbrev S16x2x64x1 : Shape := ⟨4, ![16, 2, 64, 1]⟩
abbrev S16x2x1024 : Shape := ⟨3, ![16, 2, 1024]⟩
abbrev S16x2 : Shape := ⟨2, ![16, 2]⟩
abbrev S16x2x1 : Shape := ⟨3, ![16, 2, 1]⟩
abbrev S16x128x1024 : Shape := ⟨3, ![16, 128, 1024]⟩
abbrev S16x2x128 : Shape := ⟨3, ![16, 2, 128]⟩
abbrev S1x2x128 : Shape := ⟨3, ![1, 2, 128]⟩
abbrev S16x128 : Shape := ⟨2, ![16, 128]⟩
abbrev S1x16x2 : Shape := ⟨3, ![1, 16, 2]⟩
abbrev S1x16x1024 : Shape := ⟨3, ![1, 16, 1024]⟩
abbrev S1x1x8x16x2 : Shape := ⟨5, ![1, 1, 8, 16, 2]⟩
abbrev S1 : Shape := ⟨1, ![1]⟩
abbrev S1x2x8x16x2 : Shape := ⟨5, ![1, 2, 8, 16, 2]⟩
abbrev S2x8x16x2 : Shape := ⟨4, ![2, 8, 16, 2]⟩
abbrev S1x1x1x16x2 : Shape := ⟨5, ![1, 1, 1, 16, 2]⟩
abbrev S1x16x128 : Shape := ⟨3, ![1, 16, 128]⟩

abbrev nBuf : Space → Nat
  | .hbm => 7
  | .vmem => 12
  | .smem => 0
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x16x64x1024, .f32⟩
  | .hbm, ⟨4, _⟩ => ⟨S16x16x64x1024, .f32⟩
  | .hbm, ⟨5, _⟩ => ⟨S16x1024, .f32⟩
  | .hbm, ⟨6, _⟩ => ⟨S16x1x16x64, .f32⟩
  | .local _ .vmem, ⟨0, _⟩ => ⟨S16x1x16x64, .f32⟩
  | .local _ .vmem, ⟨1, _⟩ => ⟨S16x2x64x1024, .f32⟩
  | .local _ .vmem, ⟨2, _⟩ => ⟨S16x2x64x1024, .f32⟩
  | .local _ .vmem, ⟨3, _⟩ => ⟨S16x2x64x1024, .f32⟩
  | .local _ .vmem, ⟨4, _⟩ => ⟨S16x2x64x1024, .f32⟩
  | .local _ .vmem, ⟨5, _⟩ => ⟨S16x1024, .f32⟩
  | .local _ .vmem, ⟨6, _⟩ => ⟨S8x16x2, .f32⟩
  | .local _ .vmem, ⟨7, _⟩ => ⟨S8x16x2, .f32⟩
  | .local _ .vmem, ⟨8, _⟩ => ⟨S16x1024, .f32⟩
  | .local _ .vmem, ⟨9, _⟩ => ⟨S16x16x64x1, .f32⟩
  | .local _ .vmem, ⟨10, _⟩ => ⟨S2x16x1024, .f32⟩
  | .local _ .vmem, ⟨11, _⟩ => ⟨S2x2x8x16x2, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_9 : BitVec 32 := 0#32
  let v39 : BitVec 1 := Scalar.cmpi .eq arg0 c0_i32_9
  let v40 : BitVec 32 := Scalar.extui v39
  let c0_i32_10 : BitVec 32 := 0#32
  let v41 : BitVec 1 := Scalar.cmpi .ne v40 c0_i32_10
  v41

def k0_dev1 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v91 : BitVec 32 := Scalar.muli v9 c4_i32_42
  let v92 : BitVec 32 := Scalar.addi c0_i32_43 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v93 : BitVec 32 := Scalar.muli v5 c2_i32_44
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v95 : BitVec 32 := Scalar.muli v8 c1_i32_45
  let v96 : BitVec 32 := Scalar.addi v94 v95
  v96.toNat
def k0_off1 (i : grid0.Coords) : Fin 4 → Nat :=
  let c0 : Index := 0#32
  let arg0 : BitVec 32 := BitVec.ofNat 32 (i 0).val
  let c2_i32_11 : BitVec 32 := 2#32
  let v42 : BitVec 32 := Scalar.muli arg0 c2_i32_11
  let v43 : Index := Scalar.indexCast v42
  let c0_12 : Index := 0#32
  let c0_13 : Index := 0#32
  ![0, v43.toNat, 0, 0]
def k0_off2 (i : grid0.Coords) : Fin 2 → Nat :=
  let c0_26 : Index := 0#32
  let arg0 : BitVec 32 := BitVec.ofNat 32 (i 0).val
  let c128_i32 : BitVec 32 := 128#32
  let v66 : BitVec 32 := Scalar.muli arg0 c128_i32
  let v67 : Index := Scalar.indexCast v66
  ![0, v67.toNat]
def k0_off3 (i : grid0.Coords) : Fin 3 → Nat :=
  let arg0 : BitVec 32 := BitVec.ofNat 32 (i 0).val
  let v71 : Index := Scalar.indexCast arg0
  let c0_27 : Index := 0#32
  let c0_28 : Index := 0#32
  ![v71.toNat, 0, 0]
def k0_cond2 (i : grid0.Coords) : BitVec 1 :=
  let arg0 : BitVec 32 := BitVec.ofNat 32 (i 0).val
  let c7_i32 : BitVec 32 := 7#32
  let v79 : BitVec 1 := Scalar.cmpi .eq arg0 c7_i32
  let v80 : BitVec 32 := Scalar.extui v79
  let c0_i32_31 : BitVec 32 := 0#32
  let v81 : BitVec 1 := Scalar.cmpi .ne v80 c0_i32_31
  v81

def k0_dev2 (d0 : Dev nD) : Nat :=
  let c0_i32_57 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_56 : BitVec 32 := 4#32
  let v94 : BitVec 32 := Scalar.muli v9 c4_i32_56
  let v95 : BitVec 32 := Scalar.addi c0_i32_57 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v96 : BitVec 32 := Scalar.muli v5 c2_i32_58
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v98 : BitVec 32 := Scalar.muli v8 c1_i32_59
  let v99 : BitVec 32 := Scalar.addi v97 v98
  v99.toNat
def k0_dev3 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v108 : BitVec 32 := Scalar.muli v9 c4_i32_68
  let v109 : BitVec 32 := Scalar.addi c0_i32_69 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v110 : BitVec 32 := Scalar.muli v5 c2_i32_70
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v112 : BitVec 32 := Scalar.muli v8 c1_i32_71
  let v113 : BitVec 32 := Scalar.addi v111 v112
  v113.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
/- The two-slot buffers through which a device and its partner exchange their partial results.

   The kernel keeps a buffer `S2x16x1024` for unnormalised outputs and one `S2x2x8x16x2` for row maxima
   and row sums. Slot 0 is what the device sends, slot 1 what it receives. Here: the slots as the
   kernel spells them, which elements they cover, and how one slot's contents arrive in the other. -/
module

public import proofs.«01_k».proof.Proof.Gen.KernelIdeal.Launch
public import Idealize.ShloMosaic.Lib.ValueLayout
public import Idealize.ShloMosaic.Lib.Tactic

@[expose] public section

noncomputable section

namespace Cert.FlashDecode

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The slots -/

/-- The two-slot buffer of unnormalised outputs. -/
abbrev accBuf : Memref sig .tc .vmem S2x16x1024 .f32 := Memref.whole cc0_scratch4
/-- The two-slot buffer of row maxima (`[·, 0]`) and row sums (`[·, 1]`). -/
abbrev statBuf : Memref sig .tc .vmem S2x2x8x16x2 .f32 := Memref.whole cc0_scratch5

abbrev accOut : Memref sig .tc .vmem S16x1024 .f32 :=
  (accBuf.slice (Rect.unit (s := S2x16x1024) ![0, 0, 0] S1x16x1024.size inb_S2x16x1024_S1x16x1024_0_0_0) (fun _ => rfl)).squeeze
    S16x1024 squeezes_S1x16x1024_S16x1024
abbrev accIn : Memref sig .tc .vmem S16x1024 .f32 :=
  (accBuf.slice (Rect.unit (s := S2x16x1024) ![1, 0, 0] S1x16x1024.size inb_S2x16x1024_S1x16x1024_1_0_0) (fun _ => rfl)).squeeze
    S16x1024 squeezes_S1x16x1024_S16x1024
abbrev statOut : Memref sig .tc .vmem S2x8x16x2 .f32 :=
  (statBuf.slice (Rect.unit (s := S2x2x8x16x2) ![0, 0, 0, 0, 0] S1x2x8x16x2.size inb_S2x2x8x16x2_S1x2x8x16x2_0_0_0_0_0) (fun _ => rfl)).squeeze
    S2x8x16x2 squeezes_S1x2x8x16x2_S2x8x16x2
abbrev statIn : Memref sig .tc .vmem S2x8x16x2 .f32 :=
  (statBuf.slice (Rect.unit (s := S2x2x8x16x2) ![1, 0, 0, 0, 0] S1x2x8x16x2.size inb_S2x2x8x16x2_S1x2x8x16x2_1_0_0_0_0) (fun _ => rfl)).squeeze
    S2x8x16x2 squeezes_S1x2x8x16x2_S2x8x16x2

/-! ## Where a slot's elements sit -/

theorem accOut_emb (x : Fin 16) (y : Fin 1024) : accOut.view.emb (ix2 x y) = ix3 (0 : Fin 2) x y := by
  show (Rect.unit (s := S2x16x1024) ![0, 0, 0] S1x16x1024.size inb_S2x16x1024_S1x16x1024_0_0_0).emb
    (Shape.reshapeEquiv _ (ix2 x y)) = _
  rw [reshapeEquiv_ix2_1ab]
  funext a
  fin_cases a <;> refine Fin.ext ?_
  · show 0 + 1 * 0 = 0; rfl
  · show 0 + 1 * x.val = x.val; omega
  · show 0 + 1 * y.val = y.val; omega

theorem accIn_emb (x : Fin 16) (y : Fin 1024) : accIn.view.emb (ix2 x y) = ix3 (1 : Fin 2) x y := by
  show (Rect.unit (s := S2x16x1024) ![1, 0, 0] S1x16x1024.size inb_S2x16x1024_S1x16x1024_1_0_0).emb
    (Shape.reshapeEquiv _ (ix2 x y)) = _
  rw [reshapeEquiv_ix2_1ab]
  funext a
  fin_cases a <;> refine Fin.ext ?_
  · show 1 + 1 * 0 = 1; rfl
  · show 0 + 1 * x.val = x.val; omega
  · show 0 + 1 * y.val = y.val; omega

/-- An index `(w, x, y, z)` matched with shape `[1, a, b, c, d]` is `(0, w, x, y, z)`. -/
theorem reshapeEquiv_unit4 {a b c d : ℕ} (h : (⟨4, ![a, b, c, d]⟩ : Shape).numel = (⟨5, ![1, a, b, c, d]⟩ : Shape).numel)
    (w : Fin a) (x : Fin b) (y : Fin c) (z : Fin d) :
    Shape.reshapeEquiv h (ix4 w x y z) = ix5 (⟨0, Nat.one_pos⟩ : Fin 1) w x y z :=
  Shape.reshapeEquiv_eq_of_rowMajor h (by
    rw [Shape.rowMajor_val_five, Shape.rowMajor_val_four]
    show ((((0 * a + w.val) * b + x.val) * c + y.val) * d + z.val) = (((w.val * b + x.val) * c + y.val) * d + z.val)
    simp only [Nat.zero_mul, Nat.zero_add])

theorem statOut_emb (w : Fin 2) (x : Fin 8) (y : Fin 16) (z : Fin 2) :
    statOut.view.emb (ix4 w x y z) = ix5 (0 : Fin 2) w x y z := by
  show (Rect.unit (s := S2x2x8x16x2) ![0, 0, 0, 0, 0] S1x2x8x16x2.size inb_S2x2x8x16x2_S1x2x8x16x2_0_0_0_0_0).emb
    (Shape.reshapeEquiv _ (ix4 w x y z)) = _
  rw [reshapeEquiv_unit4]
  funext a
  fin_cases a <;> refine Fin.ext ?_
  · show 0 + 1 * 0 = 0; rfl
  · show 0 + 1 * w.val = w.val; omega
  · show 0 + 1 * x.val = x.val; omega
  · show 0 + 1 * y.val = y.val; omega
  · show 0 + 1 * z.val = z.val; omega

theorem statIn_emb (w : Fin 2) (x : Fin 8) (y : Fin 16) (z : Fin 2) :
    statIn.view.emb (ix4 w x y z) = ix5 (1 : Fin 2) w x y z := by
  show (Rect.unit (s := S2x2x8x16x2) ![1, 0, 0, 0, 0] S1x2x8x16x2.size inb_S2x2x8x16x2_S1x2x8x16x2_1_0_0_0_0).emb
    (Shape.reshapeEquiv _ (ix4 w x y z)) = _
  rw [reshapeEquiv_unit4]
  funext a
  fin_cases a <;> refine Fin.ext ?_
  · show 1 + 1 * 0 = 1; rfl
  · show 0 + 1 * w.val = w.val; omega
  · show 0 + 1 * x.val = x.val; omega
  · show 0 + 1 * y.val = y.val; omega
  · show 0 + 1 * z.val = z.val; omega

theorem mem_accOut (i : S2x16x1024.Idx) : i ∈ accOut.view.set ↔ i 0 = (0 : Fin 2) := by
  constructor
  · intro h
    obtain ⟨y, -, rfl⟩ := Finset.mem_map.mp h
    obtain ⟨a, b, rfl⟩ : ∃ a b, y = ix2 (n0 := 16) (n1 := 1024) a b := ⟨y 0, y 1, eq_ix2 y⟩
    rw [accOut_emb]
  · intro h
    obtain ⟨k, a, b, rfl⟩ : ∃ k a b, i = ix3 (n0 := 2) (n1 := 16) (n2 := 1024) k a b := ⟨i 0, i 1, i 2, eq_ix3 i⟩
    have e : k = _ := h
    rw [e, ← accOut_emb a b]; exact View.emb_mem_set _ _

theorem mem_accIn (i : S2x16x1024.Idx) : i ∈ accIn.view.set ↔ i 0 = (1 : Fin 2) := by
  constructor
  · intro h
    obtain ⟨y, -, rfl⟩ := Finset.mem_map.mp h
    obtain ⟨a, b, rfl⟩ : ∃ a b, y = ix2 (n0 := 16) (n1 := 1024) a b := ⟨y 0, y 1, eq_ix2 y⟩
    rw [accIn_emb]
  · intro h
    obtain ⟨k, a, b, rfl⟩ : ∃ k a b, i = ix3 (n0 := 2) (n1 := 16) (n2 := 1024) k a b := ⟨i 0, i 1, i 2, eq_ix3 i⟩
    have e : k = _ := h
    rw [e, ← accIn_emb a b]; exact View.emb_mem_set _ _

theorem mem_statOut (i : S2x2x8x16x2.Idx) : i ∈ statOut.view.set ↔ i 0 = (0 : Fin 2) := by
  constructor
  · intro h
    obtain ⟨y, -, rfl⟩ := Finset.mem_map.mp h
    obtain ⟨a, b, c, d, rfl⟩ : ∃ a b c d, y = ix4 (n0 := 2) (n1 := 8) (n2 := 16) (n3 := 2) a b c d := ⟨y 0, y 1, y 2, y 3, eq_ix4 y⟩
    rw [statOut_emb]
  · intro h
    obtain ⟨k, a, b, c, d, rfl⟩ : ∃ k a b c d, i = ix5 (n0 := 2) (n1 := 2) (n2 := 8) (n3 := 16) (n4 := 2) k a b c d :=
      ⟨i 0, i 1, i 2, i 3, i 4, eq_ix5 i⟩
    have e : k = _ := h
    rw [e, ← statOut_emb a b c d]; exact View.emb_mem_set _ _

theorem mem_statIn (i : S2x2x8x16x2.Idx) : i ∈ statIn.view.set ↔ i 0 = (1 : Fin 2) := by
  constructor
  · intro h
    obtain ⟨y, -, rfl⟩ := Finset.mem_map.mp h
    obtain ⟨a, b, c, d, rfl⟩ : ∃ a b c d, y = ix4 (n0 := 2) (n1 := 8) (n2 := 16) (n3 := 2) a b c d := ⟨y 0, y 1, y 2, y 3, eq_ix4 y⟩
    rw [statIn_emb]
  · intro h
    obtain ⟨k, a, b, c, d, rfl⟩ : ∃ k a b c d, i = ix5 (n0 := 2) (n1 := 2) (n2 := 8) (n3 := 16) (n4 := 2) k a b c d :=
      ⟨i 0, i 1, i 2, i 3, i 4, eq_ix5 i⟩
    have e : k = _ := h
    rw [e, ← statIn_emb a b c d]; exact View.emb_mem_set _ _

theorem acc_disjoint : Disjoint accOut.view.set accIn.view.set :=
  Finset.disjoint_left.mpr fun i h h' => by
    rw [mem_accOut] at h; rw [mem_accIn] at h'; rw [h] at h'; exact absurd h' (show (0 : Fin 2) ≠ 1 by decide)

theorem acc_union : accOut.view.set ∪ accIn.view.set = Finset.univ :=
  Finset.eq_univ_iff_forall.mpr fun i => by
    rw [Finset.mem_union, mem_accOut, mem_accIn]
    exact (show ∀ k : Fin 2, k = 0 ∨ k = 1 by decide) (i 0)

theorem stat_disjoint : Disjoint statOut.view.set statIn.view.set :=
  Finset.disjoint_left.mpr fun i h h' => by
    rw [mem_statOut] at h; rw [mem_statIn] at h'; rw [h] at h'; exact absurd h' (show (0 : Fin 2) ≠ 1 by decide)

theorem stat_union : statOut.view.set ∪ statIn.view.set = Finset.univ :=
  Finset.eq_univ_iff_forall.mpr fun i => by
    rw [Finset.mem_union, mem_statOut, mem_statIn]
    exact (show ∀ k : Fin 2, k = 0 ∨ k = 1 by decide) (i 0)

/-! ## What travels -/

/-- A two-slot buffer whose slots both hold the outputs `A`. -/
def accWire (A : S16x1024.Idx → F .f32) : S2x16x1024.Idx → F .f32 := fun i => A (ix2 (i 1) (i 2))

/-- A two-slot buffer whose slots both hold the maxima `M` and the sums `L`. -/
def statWire (M L : S8x16x2.Idx → F .f32) : S2x2x8x16x2.Idx → F .f32 :=
  fun i => if (i 1).val = 0 then M (ix3 (i 2) (i 3) (i 4)) else L (ix3 (i 2) (i 3) (i 4))

omit [FloatOps F] in
/-- Sending slot 0 into slot 1 delivers the outputs sent. -/
theorem acc_landed (A : S16x1024.Idx → F .f32) (f : S2x16x1024.Idx → F .f32) (i) (hi : i ∈ accIn.view.set) :
    accIn.view.write (Elt F) f (accOut.view.read (Elt F) (accWire (F := F) A)) Finset.univ i = accWire (F := F) A i := by
  obtain ⟨y, -, rfl⟩ := Finset.mem_map.mp hi
  obtain ⟨a, b, rfl⟩ : ∃ a b, y = ix2 (n0 := 16) (n1 := 1024) a b := ⟨y 0, y 1, eq_ix2 y⟩
  refine (View.write_emb_of_mem (v := accIn.view) (Val := Elt F) f _ (Finset.mem_univ _)).trans ?_
  show accWire A (accOut.view.emb (ix2 a b)) = accWire A (accIn.view.emb (ix2 a b))
  rw [accOut_emb, accIn_emb]; rfl

omit [FloatOps F] in
/-- Sending slot 0 into slot 1 delivers the maxima and the sums sent. -/
theorem stat_landed (M L : S8x16x2.Idx → F .f32) (f : S2x2x8x16x2.Idx → F .f32) (i) (hi : i ∈ statIn.view.set) :
    statIn.view.write (Elt F) f (statOut.view.read (Elt F) (statWire (F := F) M L)) Finset.univ i = statWire (F := F) M L i := by
  obtain ⟨y, -, rfl⟩ := Finset.mem_map.mp hi
  obtain ⟨a, b, c, d, rfl⟩ : ∃ a b c d, y = ix4 (n0 := 2) (n1 := 8) (n2 := 16) (n3 := 2) a b c d := ⟨y 0, y 1, y 2, y 3, eq_ix4 y⟩
  refine (View.write_emb_of_mem (v := statIn.view) (Val := Elt F) f _ (Finset.mem_univ _)).trans ?_
  show statWire M L (statOut.view.emb (ix4 a b c d)) = statWire M L (statIn.view.emb (ix4 a b c d))
  rw [statOut_emb, statIn_emb]; rfl

end Cert.FlashDecode
-- ==== Proof.Protocol.lean ====
/- The exchange between a device and its partner, as a schedule of what each semaphore promises.

   Device `c` and its partner `mate c` hold the two halves of the keys. Each device tells the other that its
   receiving slots are free (one unit on the other's barrier semaphore), and after the last block sends its
   partial outputs and its row statistics into the other's slot 1. Each of the five semaphores a device uses is
   awaited once, so every semaphore has one round, and the round one duty. -/
module

public import proofs.«01_k».proof.Proof.Slots
public import Idealize.ShloMosaic.Lib.Pipeline.Launch
public import Idealize.ShloMosaic.Lib.Pipeline.Kit

@[expose] public section

noncomputable section

namespace Cert.FlashDecode

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two counting algebras: the pipeline's own and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

/-! ## The partner -/

/-- The device holding the other half of the keys: the mesh's first coordinate flipped. -/
def mate (c : Dev nD) : Dev nD := ⟨(c.val + 4) % 8, Nat.mod_lt _ (by decide)⟩

theorem mate_mate (c : Dev nD) : mate (mate c) = c := by revert c; decide
theorem mate_ne (c : Dev nD) : mate c ≠ c := by revert c; decide

/-- The exchange of partners as a permutation of the devices. -/
def mates : Dev nD ≃ Dev nD := ⟨mate, mate, mate_mate, mate_mate⟩

theorem mate_of_dev1 (c : Dev nD) (h : k0_dev1 c < nD) : (⟨k0_dev1 c, h⟩ : Dev nD) = mate c := by revert c; decide +kernel
theorem mate_of_dev2 (c : Dev nD) (h : k0_dev2 c < nD) : (⟨k0_dev2 c, h⟩ : Dev nD) = mate c := by revert c; decide +kernel
theorem mate_of_dev3 (c : Dev nD) (h : k0_dev3 c < nD) : (⟨k0_dev3 c, h⟩ : Dev nD) = mate c := by revert c; decide +kernel

/-! ## What a device has computed from its half of the keys -/

/-- One device's partial results: per head and row the maximal score, the sum of exponentials below it,
    and the unnormalised outputs. -/
structure Partial (F : FTy → Type) where
  top : S8x16x2.Idx → F .f32
  sum : S8x16x2.Idx → F .f32
  acc : S16x1024.Idx → F .f32

/-! ## Semaphores and cells -/

abbrev barS : Sem sig := sig.barrier 0 rfl
abbrev accSendS : DmaSem sig := ((cc0_scratch6.slice (Rect.unit (s := S2) ![0] S1.size inb_S2_S1_0)).squeeze S_ squeezes_S1_S_).sem
abbrev statSendS : DmaSem sig := ((cc0_scratch6.slice (Rect.unit (s := S2) ![1] S1.size inb_S2_S1_1)).squeeze S_ squeezes_S1_S_).sem
abbrev accRecvS : DmaSem sig := ((cc0_scratch7.slice (Rect.unit (s := S2) ![0] S1.size inb_S2_S1_0)).squeeze S_ squeezes_S1_S_).sem
abbrev statRecvS : DmaSem sig := ((cc0_scratch7.slice (Rect.unit (s := S2) ![1] S1.size inb_S2_S1_1)).squeeze S_ squeezes_S1_S_).sem

abbrev barCell (c : Dev nD) : GSem nD τ sig := ((c : Thread nD τ), .reg barS)
abbrev accSend (c : Dev nD) : GSem nD τ sig := ((c : Thread nD τ), .dma accSendS)
abbrev statSend (c : Dev nD) : GSem nD τ sig := ((c : Thread nD τ), .dma statSendS)
abbrev accRecv (c : Dev nD) : GSem nD τ sig := ((c : Thread nD τ), .dma accRecvS)
abbrev statRecv (c : Dev nD) : GSem nD τ sig := ((c : Thread nD τ), .dma statRecvS)

/-- The kernel's four scoped semaphores. -/
abbrev osem : Fin 4 → SemLoc sig := fun
  | 0 => .dma accSendS | 1 => .dma statSendS | 2 => .dma accRecvS | 3 => .dma statRecvS
abbrev scCell (ck : Dev nD × Fin 4) : GSem nD τ sig := ((ck.1 : Thread nD τ), osem ck.2)

theorem accSendS_eq : accSendS = (6 : Fin 10) := by decide
theorem statSendS_eq : statSendS = (7 : Fin 10) := by decide
theorem accRecvS_eq : accRecvS = (8 : Fin 10) := by decide
theorem statRecvS_eq : statRecvS = (9 : Fin 10) := by decide

/-- The credit of a transfer of outputs, of one of statistics. -/
abbrev accN : ℕ := accIn.view.dmaCredit
abbrev statN : ℕ := statIn.view.dmaCredit
theorem accN_pos : 0 < accN := View.dmaCredit_pos _ (by decide)
theorem statN_pos : 0 < statN := View.dmaCredit_pos _ (by decide)

/-! ## The payloads -/

def accOutPts (c : Dev nD) (f : S2x16x1024.Idx → F .f32) : sProp 𝕄 :=
  accOut.view.loc (c : Thread nD τ) ↦[accOut.view.set]{fullShare} (f : Buf (Elt F) (accOut.view.loc (c : Thread nD τ)))
def accInPts (c : Dev nD) (f : S2x16x1024.Idx → F .f32) : sProp 𝕄 :=
  accIn.view.loc (c : Thread nD τ) ↦[accIn.view.set]{fullShare} (f : Buf (Elt F) (accIn.view.loc (c : Thread nD τ)))
def statOutPts (c : Dev nD) (f : S2x2x8x16x2.Idx → F .f32) : sProp 𝕄 :=
  statOut.view.loc (c : Thread nD τ) ↦[statOut.view.set]{fullShare} (f : Buf (Elt F) (statOut.view.loc (c : Thread nD τ)))
def statInPts (c : Dev nD) (f : S2x2x8x16x2.Idx → F .f32) : sProp 𝕄 :=
  statIn.view.loc (c : Thread nD τ) ↦[statIn.view.set]{fullShare} (f : Buf (Elt F) (statIn.view.loc (c : Thread nD τ)))

omit [FloatOps F] in
instance accOutPts_storable (c : Dev nD) (f) : BI.Storable (upEmb : UEmb _ 𝕄) (accOutPts (F := F) c f) := by unfold accOutPts; infer_instance
omit [FloatOps F] in
instance accInPts_storable (c : Dev nD) (f) : BI.Storable (upEmb : UEmb _ 𝕄) (accInPts (F := F) c f) := by unfold accInPts; infer_instance
omit [FloatOps F] in
instance statOutPts_storable (c : Dev nD) (f) : BI.Storable (upEmb : UEmb _ 𝕄) (statOutPts (F := F) c f) := by unfold statOutPts; infer_instance
omit [FloatOps F] in
instance statInPts_storable (c : Dev nD) (f) : BI.Storable (upEmb : UEmb _ 𝕄) (statInPts (F := F) c f) := by unfold statInPts; infer_instance

variable (X : Dev nD → Partial F)

/-- The unit on `c`'s barrier semaphore brings `c` its partner's receiving slots, ready for the transfers. -/
def barPay (c : Dev nD) : sProp 𝕄 :=
  iprop((∃ f, accInPts (mate c) f) ∗ (∃ f, statInPts (mate c) f) ∗ reached ER (accRecv (mate c)) 0 ∗ reached ER (statRecv (mate c)) 0)
/-- A received slot holds what the partner computed. -/
def accRecvPay (c : Dev nD) : sProp 𝕄 := accInPts c (accWire (X (mate c)).acc)
def statRecvPay (c : Dev nD) : sProp 𝕄 := statInPts c (statWire (X (mate c)).top (X (mate c)).sum)
/-- A sent slot comes back with what was sent. -/
def accSendPay (c : Dev nD) : sProp 𝕄 := accOutPts c (accWire (X c).acc)
def statSendPay (c : Dev nD) : sProp 𝕄 := statOutPts c (statWire (X c).top (X c).sum)

abbrev InTalk (g : GSem nD τ sig) : Prop :=
  g.1.2 = .tc ∧ (g.2 = .reg barS ∨ g.2 = .dma accSendS ∨ g.2 = .dma statSendS ∨ g.2 = .dma accRecvS ∨ g.2 = .dma statRecvS)

/-- The schedule: one round, one duty per semaphore. -/
def talk : Rounds.Schedule (GSem nD τ sig) Unit 𝕄 where
  duties g r := if r = 0 ∧ InTalk g then {()} else ∅
  unitless _ := False
  amount g _ _ := if g.2 = .reg barS then 1 else if g.2 = .dma accSendS ∨ g.2 = .dma accRecvS then accN else statN
  payload g _ _ :=
    if g.2 = .reg barS then barPay g.1.1
    else if g.2 = .dma accSendS then accSendPay X g.1.1
    else if g.2 = .dma statSendS then statSendPay X g.1.1
    else if g.2 = .dma accRecvS then accRecvPay X g.1.1
    else if g.2 = .dma statRecvS then statRecvPay X g.1.1
    else iprop(emp)
  amount_pos g _ _ _ := by
    split
    · exact Nat.one_pos
    · split
      · exact accN_pos
      · exact statN_pos

omit [FloatOps F] in
instance talk_payload_storable (g : GSem nD τ sig) (r : ℕ) (d : Unit) : BI.Storable (upEmb : UEmb _ 𝕄) ((talk (F := F) X).payload g r d) := by
  show BI.Storable upEmb (if g.2 = .reg barS then barPay g.1.1
    else if g.2 = .dma accSendS then accSendPay X g.1.1
    else if g.2 = .dma statSendS then statSendPay X g.1.1
    else if g.2 = .dma accRecvS then accRecvPay X g.1.1
    else if g.2 = .dma statRecvS then statRecvPay X g.1.1
    else iprop(emp))
  unfold barPay accSendPay statSendPay accRecvPay statRecvPay
  (repeat' split) <;> infer_instance

/-! ## The schedule's tables -/

section Tables
variable (c : Dev nD)

omit [FloatOps F] in
theorem duties_of {g : GSem nD τ sig} (h : InTalk g) : (talk (F := F) X).duties g 0 = {()} := if_pos ⟨rfl, h⟩
omit [FloatOps F] in
theorem duties_later (g : GSem nD τ sig) : ∀ r, 1 ≤ r → (talk (F := F) X).duties g r = ∅ :=
  fun r hr => if_neg fun h => by omega

theorem in_bar : InTalk (barCell c) := ⟨rfl, .inl rfl⟩
theorem in_accSend : InTalk (accSend c) := ⟨rfl, .inr (.inl rfl)⟩
theorem in_statSend : InTalk (statSend c) := ⟨rfl, .inr (.inr (.inl rfl))⟩
theorem in_accRecv : InTalk (accRecv c) := ⟨rfl, .inr (.inr (.inr (.inl rfl)))⟩
theorem in_statRecv : InTalk (statRecv c) := ⟨rfl, .inr (.inr (.inr (.inr rfl)))⟩

omit [FloatOps F] in
theorem amount_bar (u : Unit) : (talk (F := F) X).amount (barCell c) 0 u = 1 := by dsimp only [talk]; exact if_pos rfl
omit [FloatOps F] in
theorem amount_accSend (u : Unit) : (talk (F := F) X).amount (accSend c) 0 u = accN := by
  dsimp only [talk]; rw [if_neg (by decide), if_pos (.inl rfl)]
omit [FloatOps F] in
theorem amount_accRecv (u : Unit) : (talk (F := F) X).amount (accRecv c) 0 u = accN := by
  dsimp only [talk]; rw [if_neg (by decide), if_pos (.inr rfl)]
omit [FloatOps F] in
theorem amount_statSend (u : Unit) : (talk (F := F) X).amount (statSend c) 0 u = statN := by
  dsimp only [talk]; rw [if_neg (by decide), if_neg (by decide)]
omit [FloatOps F] in
theorem amount_statRecv (u : Unit) : (talk (F := F) X).amount (statRecv c) 0 u = statN := by
  dsimp only [talk]; rw [if_neg (by decide), if_neg (by decide)]

omit [FloatOps F] in
theorem payload_bar (u : Unit) : (talk (F := F) X).payload (barCell c) 0 u = barPay c := by dsimp only [talk]; exact if_pos rfl
omit [FloatOps F] in
theorem payload_accSend (u : Unit) : (talk (F := F) X).payload (accSend c) 0 u = accSendPay X c := by
  dsimp only [talk]; rw [if_neg (by decide), if_pos rfl]
omit [FloatOps F] in
theorem payload_statSend (u : Unit) : (talk (F := F) X).payload (statSend c) 0 u = statSendPay X c := by
  dsimp only [talk]; rw [if_neg (by decide), if_neg (by decide), if_pos rfl]
omit [FloatOps F] in
theorem payload_accRecv (u : Unit) : (talk (F := F) X).payload (accRecv c) 0 u = accRecvPay X c := by
  dsimp only [talk]; rw [if_neg (by decide), if_neg (by decide), if_neg (by decide), if_pos rfl]
omit [FloatOps F] in
theorem payload_statRecv (u : Unit) : (talk (F := F) X).payload (statRecv c) 0 u = statRecvPay X c := by
  dsimp only [talk]; rw [if_neg (by decide), if_neg (by decide), if_neg (by decide), if_neg (by decide), if_pos rfl]

omit [FloatOps F] in
/-- A round's whole expectation is its one duty's amount. -/
theorem expect_of {g : GSem nD τ sig} (h : InTalk g) {n : ℕ} (hn : (talk (F := F) X).amount g 0 () = n) : (talk (F := F) X).expect g 0 = n := by
  unfold Schedule.expect Schedule.amountOf; rw [duties_of X h, Finset.sum_singleton, hn]

omit [FloatOps F] in
/-- A round's payloads together are its one duty's. -/
theorem rest_of {g : GSem nD τ sig} (h : InTalk g) {P : sProp 𝕄} (hP : (talk (F := F) X).payload g 0 () = P) :
    bigSep ((talk (F := F) X).duties g 0 \ ∅) (fun u => (talk (F := F) X).payload g 0 u) = P := by
  rw [Finset.sdiff_empty, duties_of X h, bigSep_singleton, hP]

end Tables

/-! ## What a device owes, and the order of waiting -/

/-- Until the last block, a device owes its partner the two transfers. -/
def owesRecv (c : Dev nD) : CellTallies nD τ sig Unit := tallyAt (accRecv (mate c)) () accN + tallyAt (statRecv (mate c)) () statN
/-- At the start it owes the partner's barrier semaphore a unit besides. -/
def owesAll (c : Dev nD) : CellTallies nD τ sig Unit := owesRecv c + tallyAt (barCell (mate c)) () 1

def Lset (g : GSem nD τ sig) : Finset Unit := if g.1.2 = .tc then {()} else ∅
/-- Staging and sending at level 0, the barrier at 1, receiving at 2. -/
def lvl (g : GSem nD τ sig) (_ : Unit) : ℕ :=
  if g.2 = .reg barS then 1 else if g.2 = .dma accRecvS ∨ g.2 = .dma statRecvS then 2 else 0

theorem Lset_of_ne (g : GSem nD τ sig) (h : g.1.2 ≠ .tc) : Lset g = ∅ := if_neg h
theorem mem_Lset (c : Dev nD) (sm : SemLoc sig) : () ∈ Lset ((c : Thread nD τ), sm) := by
  rw [Lset, if_pos rfl]; exact Finset.mem_singleton_self _

theorem lvl_bar (c : Dev nD) (u : Unit) : lvl (barCell c) u = 1 := if_pos rfl
theorem lvl_accRecv (c : Dev nD) (u : Unit) : lvl (accRecv c) u = 2 := by
  dsimp only [lvl]; rw [if_neg (by decide), if_pos (.inl rfl)]
theorem lvl_statRecv (c : Dev nD) (u : Unit) : lvl (statRecv c) u = 2 := by
  dsimp only [lvl]; rw [if_neg (by decide), if_pos (.inr rfl)]

theorem owesRecv_pos {c : Dev nD} {g : GSem nD τ sig} {u : Unit} (h : 0 < owesRecv c g u) : g = accRecv (mate c) ∨ g = statRecv (mate c) := by
  unfold owesRecv at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

theorem owesAll_pos {c : Dev nD} {g : GSem nD τ sig} {u : Unit} (h : 0 < owesAll c g u) :
    g = accRecv (mate c) ∨ g = statRecv (mate c) ∨ g = barCell (mate c) := by
  unfold owesAll at h
  rw [Pi.add_apply, Finsupp.add_apply, tallyAt_apply] at h
  by_cases hb : g = barCell (mate c)
  · exact .inr (.inr hb)
  · rw [if_neg (fun h' => hb h'.1)] at h
    exact (owesRecv_pos h).imp id .inl

/-- Whatever is still owed lies on levels 1 and 2. -/
theorem owed_lvl {c : Dev nD} {O : CellTallies nD τ sig Unit} (hO : O = owesAll c ∨ O = owesRecv c ∨ O = 0) {g : GSem nD τ sig} {u : Unit}
    (h : 0 < O g u) : u ∈ Lset g ∧ 0 < lvl g u := by
  rcases hO with rfl | rfl | rfl
  · rcases owesAll_pos h with rfl | rfl | rfl
    · exact ⟨mem_Lset _ _, by rw [lvl_accRecv]; decide⟩
    · exact ⟨mem_Lset _ _, by rw [lvl_statRecv]; decide⟩
    · exact ⟨mem_Lset _ _, by rw [lvl_bar]; decide⟩
  · rcases owesRecv_pos h with rfl | rfl
    · exact ⟨mem_Lset _ _, by rw [lvl_accRecv]; decide⟩
    · exact ⟨mem_Lset _ _, by rw [lvl_statRecv]; decide⟩
  · exact absurd h (Nat.lt_irrefl 0)

omit [FloatOps F] in
/-- While a device owes the transfers it may wait on its barrier semaphore. -/
theorem mayWait_bar (c : Dev nD) : (levAts Lset lvl : sProp 𝕄) ⊢ MayWait (c : Thread nD τ) (.reg barS) () (owesRecv c) :=
  MayOwe.of_cut (L := Lset) (lev := lvl) 1 (fun p hp => by rw [Finset.mem_singleton.mp hp]; exact mem_Lset _ _)
    (fun g u hg => by rcases owesRecv_pos hg with rfl | rfl <;> exact mem_Lset _ _)
    (fun p hp => by rw [Finset.mem_singleton.mp hp]; exact (lvl_bar c ()).le)
    (fun g u hg => by
      rcases owesRecv_pos hg with rfl | rfl
      · rw [lvl_accRecv]; decide
      · rw [lvl_statRecv]; decide)

end Cert.FlashDecode
-- ==== Proof.Block.lean ====
/-
  What one grid point computes of its block of keys, and its run at the points that do not finish the exchange. The scratch
  buffers enter as whole memrefs and their contents as vectors of values.
-/
module

public import proofs.«01_k».proof.Proof.Protocol
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The two heads of the scaled query that grid point `i` works on. -/
def qPair (i : grid0.Coords) (q : S16x16x64x1.Idx → F .f32) : S16x2x64x1.Idx → F .f32 :=
  VecWindow.window q (k0_off1 i) S16x2x64x1.size (k0_off1_inb i)

omit [FloatOps F] in
/-- A load of a point's two heads reads them off what the memref reads. -/
theorem qPair_loaded {M : Memref sig .tc .vmem S16x16x64x1 .f32} (i : grid0.Coords) (f : M.view.ty.Contents (Elt F))
    (inb : ∀ a, k0_off1 i a + S16x2x64x1.size a ≤ S16x16x64x1.size a) :
    M.view.readAt (Elt F) (Rect.unit (s := S16x16x64x1) (k0_off1 i) S16x2x64x1.size inb).toLoadRect f = qPair i (M.view.read (Elt F) f) := rfl

/-- The row maxima, the row sums and the weighted values of one point's block. -/
def topOf (i : grid0.Coords) (q : S16x16x64x1.Idx → F .f32) (k : S16x2x64x1024.Idx → F .f32) : S1x16x2.Idx → F .f32 := k0_pay45 (qPair i q) k
def sumOf (i : grid0.Coords) (q : S16x16x64x1.Idx → F .f32) (k : S16x2x64x1024.Idx → F .f32) : S1x16x2.Idx → F .f32 := k0_pay1 (k0_pay43 (qPair i q) k)
def accOf (i : grid0.Coords) (q : S16x16x64x1.Idx → F .f32) (k v : S16x2x64x1024.Idx → F .f32) : S16x128.Idx → F .f32 := k0_pay44 k0_pay38 (qPair i q) k v

/-- A point's results put into the running vectors of all points. -/
def putTop (i : grid0.Coords) (x : S8x16x2.Idx → F .f32) (w : S1x16x2.Idx → F .f32) : S8x16x2.Idx → F .f32 := VecWindow.put x (k0_off3 i) S1x16x2.size w
def putAcc (i : grid0.Coords) (x : S16x1024.Idx → F .f32) (w : S16x128.Idx → F .f32) : S16x1024.Idx → F .f32 := VecWindow.put x (k0_off2 i) S16x128.size w

/-- A point that neither starts nor finishes the exchange. -/
theorem body_mid (c : Dev nD) (i : grid0.Coords) (h1 : ¬ k0_cond1 i = 1#1) (h2 : ¬ k0_cond2 i = 1#1)
    (M1 : Memref sig .tc .vmem S16x1x16x64 .f32) (hM1 : M1.IsWhole) (M2 M3 : Memref sig .tc .vmem S16x2x64x1024 .f32) (hM2 : M2.IsWhole)
    (hM3 : M3.IsWhole) (M4 : Memref sig .tc .vmem S16x1024 .f32) (hM4 : M4.IsWhole)
    (M5 M6 : Memref sig .tc .vmem S8x16x2 .f32) (hM5 : M5.IsWhole) (hM6 : M6.IsWhole) (M7 : Memref sig .tc .vmem S16x1024 .f32) (hM7 : M7.IsWhole)
    (M8 : Memref sig .tc .vmem S16x16x64x1 .f32) (hM8 : M8.IsWhole) (M9 : Memref sig .tc .vmem S2x16x1024 .f32) (hM9 : M9.IsWhole)
    (M10 : Memref sig .tc .vmem S2x2x8x16x2 .f32) (hM10 : M10.IsWhole)
    (k v : S16x2x64x1024.Idx → F .f32) (m l : S8x16x2.Idx → F .f32) (a : S16x1024.Idx → F .f32) (q : S16x16x64x1.Idx → F .f32)
    (Q : PUnit → sProp 𝕄) :
    iprop(owns (c : Thread nD τ) M2 fullShare k ∗ owns (c : Thread nD τ) M3 fullShare v
      ∗ owns (c : Thread nD τ) M5 fullShare m ∗ owns (c : Thread nD τ) M6 fullShare l ∗ owns (c : Thread nD τ) M7 fullShare a ∗ owns (c : Thread nD τ) M8 fullShare q
      ∗ ((owns (c : Thread nD τ) M2 fullShare k ∗ owns (c : Thread nD τ) M3 fullShare v
        ∗ owns (c : Thread nD τ) M5 fullShare (putTop i m (topOf i q k)) ∗ owns (c : Thread nD τ) M6 fullShare (putTop i l (sumOf i q k))
        ∗ owns (c : Thread nD τ) M7 fullShare (putAcc i a (accOf i q k v)) ∗ owns (c : Thread nD τ) M8 fullShare q) -∗ Q ⟨⟩))
    ⊢ wp frame (wpE (defs₀ (F := F)) 𝒱₀ (c : Thread nD τ) none) Set.univ
      (cc0_body i M1 hM1 M2 hM2 M3 hM3 M4 hM4 M5 hM5 M6 hM6 M7 hM7 M8 hM8 M9 hM9 M10 hM10 cc0_scratch6 cc0_scratch7) Q := by
  simp only [cc0_body_eq_skeleton]; unfold cc0_body_skel
  simp only [k0_part11_eq_skeleton, k0_part12_eq_skeleton]; unfold k0_part11_skel k0_part12_skel
  unfold owns
  iintro ⟨⟨%fk, %hk, Hk⟩, ⟨%fv, %hv, Hv⟩, ⟨%fm, %hm, Hm⟩, ⟨%fl, %hl, Hl⟩, ⟨%fa, %ha, Ha⟩, ⟨%fq, %hq, Hq⟩, HQ⟩
  subst hk hv hm hl ha hq
  sl_exec
  sl_step
  iapply HQ
  isplitl [Hk]
  · iexists fk; isplitr
    · ipureintro; rfl
    iexact Hk
  isplitl [Hv]
  · iexists fv; isplitr
    · ipureintro; rfl
    iexact Hv
  isplitl [Hm]
  · iexists _; isplitr
    swap
    · iexact Hm
    ipureintro; rw [View.read_writes_cons_put _ _ _ _ _ rfl, View.readAt_full]; rfl
  isplitl [Hl]
  · iexists _; isplitr
    swap
    · iexact Hl
    ipureintro; rw [View.read_writes_cons_put _ _ _ _ _ rfl, View.readAt_full]; rfl
  isplitl [Ha]
  · iexists _; isplitr
    swap
    · iexact Ha
    ipureintro; rw [View.read_writes_cons_put _ _ _ _ _ rfl, View.readAt_full, View.readAt_full]; rfl
  iexists fq; isplitr
  · ipureintro; rfl
  iexact Hq

variable (X : Dev nD → Partial F)

/-- What the first point brings to the exchange of readiness: the unit it waits for and the one it owes, its receiving slots to lend. -/
def barStart (K : GSem nD τ sig → ℕ) (c : Dev nD) (W : Waits sig Unit) : sProp 𝕄 :=
  iprop(cellInv ER (talk X) (K (barCell c)) (barCell c) ∗ cellInv ER (talk X) (K (barCell (mate c))) (barCell (mate c))
    ∗ levAts Lset lvl ∗ reached ER (barCell (mate c)) 0 ∗ reached ER (accRecv c) 0 ∗ reached ER (statRecv c) 0
    ∗ atPos ER (barCell c) 0 ∅ 0 ∗ cred (tallyAt (barCell c) () 1) ∗ dutyTok ER (barCell (mate c)) 0 ()
    ∗ (∃ f, accInPts c f) ∗ (∃ f, statInPts c f) ∗ owes (c : Thread nD τ) (owesAll c) W)

/-- What it has afterwards: the partner's receiving slots, its own semaphore spent, and the two transfers still owed. -/
def barDone (c : Dev nD) : sProp 𝕄 :=
  iprop(barPay c ∗ semVal (barCell c) 0 ∗ ∃ W, owes (c : Thread nD τ) (owesRecv c) W)

/-- The first point: the query is scaled, readiness is exchanged with the partner, and the block is computed. -/
theorem body_first (K : GSem nD τ sig → ℕ) (W : Waits sig Unit) (c : Dev nD) (i : grid0.Coords) (h1 : k0_cond1 i = 1#1) (h2 : ¬ k0_cond2 i = 1#1)
    (M1 : Memref sig .tc .vmem S16x1x16x64 .f32) (hM1 : M1.IsWhole) (M2 M3 : Memref sig .tc .vmem S16x2x64x1024 .f32) (hM2 : M2.IsWhole)
    (hM3 : M3.IsWhole) (M4 : Memref sig .tc .vmem S16x1024 .f32) (hM4 : M4.IsWhole)
    (M5 M6 : Memref sig .tc .vmem S8x16x2 .f32) (hM5 : M5.IsWhole) (hM6 : M6.IsWhole) (M7 : Memref sig .tc .vmem S16x1024 .f32) (hM7 : M7.IsWhole)
    (M8 : Memref sig .tc .vmem S16x16x64x1 .f32) (hM8 : M8.IsWhole) (M9 : Memref sig .tc .vmem S2x16x1024 .f32) (hM9 : M9.IsWhole)
    (M10 : Memref sig .tc .vmem S2x2x8x16x2 .f32) (hM10 : M10.IsWhole)
    (k v : S16x2x64x1024.Idx → F .f32) (m l : S8x16x2.Idx → F .f32) (a : S16x1024.Idx → F .f32) (q0 : S16x16x64x1.Idx → F .f32) (q : S16x1x16x64.Idx → F .f32)
    (Q : PUnit → sProp 𝕄) :
    iprop(owns (c : Thread nD τ) M2 fullShare k ∗ owns (c : Thread nD τ) M3 fullShare v
      ∗ owns (c : Thread nD τ) M5 fullShare m ∗ owns (c : Thread nD τ) M6 fullShare l ∗ owns (c : Thread nD τ) M7 fullShare a ∗ owns (c : Thread nD τ) M8 fullShare q0 ∗ owns (c : Thread nD τ) M1 fullShare q ∗ barStart X K c W
      ∗ ((owns (c : Thread nD τ) M2 fullShare k ∗ owns (c : Thread nD τ) M3 fullShare v
        ∗ owns (c : Thread nD τ) M5 fullShare (putTop i m (topOf i (k0_pay39 q) k)) ∗ owns (c : Thread nD τ) M6 fullShare (putTop i l (sumOf i (k0_pay39 q) k))
        ∗ owns (c : Thread nD τ) M7 fullShare (putAcc i a (accOf i (k0_pay39 q) k v)) ∗ owns (c : Thread nD τ) M8 fullShare (k0_pay39 q) ∗ owns (c : Thread nD τ) M1 fullShare q ∗ barDone c) -∗ Q ⟨⟩))
    ⊢ wp frame (wpE (defs₀ (F := F)) 𝒱₀ (c : Thread nD τ) none) Set.univ
      (cc0_body i M1 hM1 M2 hM2 M3 hM3 M4 hM4 M5 hM5 M6 hM6 M7 hM7 M8 hM8 M9 hM9 M10 hM10 cc0_scratch6 cc0_scratch7) Q := by
  simp only [cc0_body_eq_skeleton]; unfold cc0_body_skel
  simp only [k0_part11_eq_skeleton, k0_part12_eq_skeleton]; unfold k0_part11_skel k0_part12_skel
  unfold owns barStart barDone
  iintro ⟨⟨%fk, %hk, Hk⟩, ⟨%fv, %hv, Hv⟩, ⟨%fm, %hm, Hm⟩, ⟨%fl, %hl, Hl⟩, ⟨%fa, %ha, Ha⟩, ⟨%fq, %hq, Hq⟩, ⟨%fx, %hx, Hx⟩, Hbar, HQ⟩
  icases Hbar with ⟨#HI, #HIp, #Hlev, #HrP, #HrA, #HrS, Hat, Hcr, Htok, Hin, Hst, HO⟩
  subst hk hv hm hl ha hq hx
  sl_exec
  generalize hg : M8.view.writes (Elt F) fq _ = g
  have hq' : M8.view.read (Elt F) g = k0_pay39 (M1.view.read (Elt F) fx) := by rw [← hg, View.read_writes_full, View.readAt_full]
  dsimp only
  simp only [mate_of_dev1 c]
  iapply (Rounds.wp_signal 𝒱₀ ER (talk X) (c : Thread nD τ) none (dst := (mate c : Thread nD τ)) (κ := K (barCell (mate c)))
      (by rw [duties_of X (in_bar _)]; exact Finset.mem_singleton_self _) ((amount_bar X (mate c) ()).trans (by decide)) () (owesRecv c) rfl)
    $$ [HO Htok Hin Hst]
  · isplitr; · iexact HIp
    isplitl [HO]; · iexact HO
    isplitl [Htok]; · iexact Htok
    isplitl [Hin Hst]
    · rw [payload_bar]; unfold barPay; rw [mate_mate]
      isplitl [Hin]; · iexact Hin
      isplitl [Hst]; · iexact Hst
      isplitr; · iexact HrA
      iexact HrS
    iexact HrP
  iintro HO
  sl_exec
  generalize hb : (SemArray.scalar (sig.barrier 0 rfl)).sem = s
  obtain rfl : s = barS := hb.symm.trans rfl
  iapply (Rounds.wp_wait_rest_token 𝒱₀ ER (talk X) (c : Thread nD τ) none (κ := K (barCell c))
      (wpE_semWait_eq 𝒱₀ (c : Thread nD τ) none Set.univ) (Set.mem_univ _) () (O := owesRecv c) (W := W) (R := 0) (m := 0) (T := ∅)
      ((show 0 + (1#32).toNat = 1 by decide).trans (expect_of X (in_bar c) (amount_bar X c ())).symm)) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hpay := (Entails.of_eq (rest_of X (in_bar c) (payload_bar X c ()))) $$ Hpay
  imod (Rounds.cell_close ER (talk X) (Set.mem_univ (K (barCell c))) (fun h => h) (R := 0 + 1) (duties_later X (barCell c))) $$ [Hat] with Hz
  · isplitr; · iexact HI
    iexact Hat
  sl_exec
  sl_step
  iapply HQ
  isplitl [Hk]
  · iexists fk; isplitr
    · ipureintro; rfl
    iexact Hk
  isplitl [Hv]
  · iexists fv; isplitr
    · ipureintro; rfl
    iexact Hv
  isplitl [Hm]
  · iexists _; isplitr
    swap
    · iexact Hm
    ipureintro; rw [View.read_writes_cons_put _ _ _ _ _ rfl, qPair_loaded i, hq', View.readAt_full]; rfl
  isplitl [Hl]
  · iexists _; isplitr
    swap
    · iexact Hl
    ipureintro; rw [View.read_writes_cons_put _ _ _ _ _ rfl, qPair_loaded i, hq', View.readAt_full]; rfl
  isplitl [Ha]
  · iexists _; isplitr
    swap
    · iexact Ha
    ipureintro; rw [View.read_writes_cons_put _ _ _ _ _ rfl, View.readAt_full, qPair_loaded i, hq', View.readAt_full]; rfl
  isplitl [Hq]
  · iexists _; isplitr
    swap
    · iexact Hq
    ipureintro; exact hq'
  isplitl [Hx]
  · iexists fx; isplitr
    · ipureintro; rfl
    iexact Hx
  isplitl [Hpay]; · iexact Hpay
  isplitl [Hz]; · iexact Hz
  iexists _; iexact HO

end Cert.FlashDecode
-- ==== Proof.Fill.lean ====
/-
  The last point's first step: the device copies its running vectors into its sending slots.
-/
module

public import proofs.«01_k».proof.Proof.Block
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The vectors to send, put into the sending slots -/

abbrev accRect : Rect S2x16x1024 := Rect.unit (s := S2x16x1024) ![0, 0, 0] S1x16x1024.size inb_S2x16x1024_S1x16x1024_0_0_0
abbrev topRect : Rect S2x2x8x16x2 := Rect.unit (s := S2x2x8x16x2) ![0, 0, 0, 0, 0] S1x1x8x16x2.size inb_S2x2x8x16x2_S1x1x8x16x2_0_0_0_0_0
abbrev sumRect : Rect S2x2x8x16x2 := Rect.unit (s := S2x2x8x16x2) ![0, 1, 0, 0, 0] S1x1x8x16x2.size inb_S2x2x8x16x2_S1x1x8x16x2_0_1_0_0_0

theorem accRect_emb (x : Fin 16) (y : Fin 1024) : (accBuf.access accRect).emb (ix3 (0 : Fin 1) x y) = ix3 (0 : Fin 2) x y := by
  funext a
  fin_cases a <;> refine Fin.ext ?_
  · rfl
  · show 0 + 1 * x.val = x.val; omega
  · show 0 + 1 * y.val = y.val; omega
theorem topRect_emb (x : Fin 8) (y : Fin 16) (z : Fin 2) : (statBuf.access topRect).emb (ix5 (0 : Fin 1) (0 : Fin 1) x y z) = ix5 (0 : Fin 2) (0 : Fin 2) x y z := by
  funext a
  fin_cases a <;> refine Fin.ext ?_
  · rfl
  · rfl
  · show 0 + 1 * x.val = x.val; omega
  · show 0 + 1 * y.val = y.val; omega
  · show 0 + 1 * z.val = z.val; omega
theorem sumRect_emb (x : Fin 8) (y : Fin 16) (z : Fin 2) : (statBuf.access sumRect).emb (ix5 (0 : Fin 1) (0 : Fin 1) x y z) = ix5 (0 : Fin 2) (1 : Fin 2) x y z := by
  funext a
  fin_cases a <;> refine Fin.ext ?_
  · rfl
  · rfl
  · show 0 + 1 * x.val = x.val; omega
  · show 0 + 1 * y.val = y.val; omega
  · show 0 + 1 * z.val = z.val; omega

/-- The elements of the first axis pair `(0, 0)`, and of `(0, 1)`. -/
theorem of_topRect {i : S2x2x8x16x2.Idx} (h : i ∈ (statBuf.access topRect).setOn Finset.univ) : i 0 = (0 : Fin 2) ∧ i 1 = (0 : Fin 2) := by
  obtain ⟨y, -, rfl⟩ := Finset.mem_map.mp h
  obtain ⟨u, v, a, b, d, rfl⟩ : ∃ u v a b d, y = ix5 (n0 := 1) (n1 := 1) (n2 := 8) (n3 := 16) (n4 := 2) u v a b d := ⟨y 0, y 1, y 2, y 3, y 4, eq_ix5 y⟩
  obtain rfl : u = 0 := Subsingleton.elim _ _
  obtain rfl : v = 0 := Subsingleton.elim _ _
  rw [topRect_emb]; exact ⟨rfl, rfl⟩
theorem of_sumRect {i : S2x2x8x16x2.Idx} (h : i ∈ (statBuf.access sumRect).setOn Finset.univ) : i 0 = (0 : Fin 2) ∧ i 1 = (1 : Fin 2) := by
  obtain ⟨y, -, rfl⟩ := Finset.mem_map.mp h
  obtain ⟨u, v, a, b, d, rfl⟩ : ∃ u v a b d, y = ix5 (n0 := 1) (n1 := 1) (n2 := 8) (n3 := 16) (n4 := 2) u v a b d := ⟨y 0, y 1, y 2, y 3, y 4, eq_ix5 y⟩
  obtain rfl : u = 0 := Subsingleton.elim _ _
  obtain rfl : v = 0 := Subsingleton.elim _ _
  rw [sumRect_emb]; exact ⟨rfl, rfl⟩

theorem accRect_in : (accBuf.access accRect).setOn Finset.univ ⊆ accOut.view.set := fun i h => by
  obtain ⟨y, -, rfl⟩ := Finset.mem_map.mp h
  obtain ⟨u, a, b, rfl⟩ : ∃ u a b, y = ix3 (n0 := 1) (n1 := 16) (n2 := 1024) u a b := ⟨y 0, y 1, y 2, eq_ix3 y⟩
  obtain rfl : u = 0 := Subsingleton.elim _ _
  rw [accRect_emb, mem_accOut]
theorem topRect_in : (statBuf.access topRect).setOn Finset.univ ⊆ statOut.view.set := fun _ h => (mem_statOut _).mpr (of_topRect h).1
theorem sumRect_in : (statBuf.access sumRect).setOn Finset.univ ⊆ statOut.view.set := fun _ h => (mem_statOut _).mpr (of_sumRect h).1

/-- Slot 0 holds the outputs stored there. -/
theorem acc_stored (A : S16x1024.Idx → F .f32) (f : S2x16x1024.Idx → F .f32) (i : S2x16x1024.Idx) (hi : i ∈ accOut.view.set) :
    View.write (Elt F) (accBuf.access accRect) f (k0_pay3 A) Finset.univ i = accWire A i := by
  rw [mem_accOut] at hi
  obtain ⟨k, a, b, rfl⟩ : ∃ k a b, i = ix3 (n0 := 2) (n1 := 16) (n2 := 1024) k a b := ⟨i 0, i 1, i 2, eq_ix3 i⟩
  obtain rfl : k = 0 := hi
  rw [← accRect_emb a b]
  refine (View.write_emb_of_mem (v := accBuf.access accRect) (Val := Elt F) f _ (Finset.mem_univ _)).trans ?_
  rw [accRect_emb]
  exact shapeCast_ab_1ab_apply A _ 0 a b

/-- Slot 0 holds the maxima and the sums stored there. -/
theorem stat_stored (M L : S8x16x2.Idx → F .f32) (f : S2x2x8x16x2.Idx → F .f32) (i : S2x2x8x16x2.Idx) (hi : i ∈ statOut.view.set) :
    View.write (Elt F) (statBuf.access sumRect) (View.write (Elt F) (statBuf.access topRect) f (k0_pay4 M) Finset.univ) (k0_pay5 L) Finset.univ i
      = statWire M L i := by
  rw [mem_statOut] at hi
  obtain ⟨k, w, a, b, d, rfl⟩ : ∃ k w a b d, i = ix5 (n0 := 2) (n1 := 2) (n2 := 8) (n3 := 16) (n4 := 2) k w a b d := ⟨i 0, i 1, i 2, i 3, i 4, eq_ix5 i⟩
  obtain rfl : k = 0 := hi
  have hcast (x : S8x16x2.Idx → F .f32) (h : S8x16x2.ShapeCasts S1x1x8x16x2) :
      shapeCast S1x1x8x16x2 x h (ix5 (0 : Fin 1) (0 : Fin 1) a b d) = x (ix3 a b d) :=
    shapeCast_apply x h _ _ (by
      rw [Shape.rowMajor_val_five, Shape.rowMajor_val_three]
      show ((a.val * 16 + b.val) * 2 + d.val) = ((((0 * 1 + 0) * 8 + a.val) * 16 + b.val) * 2 + d.val)
      omega)
  rcases (show w = 0 ∨ w = 1 by omega) with rfl | rfl
  · rw [View.write_of_not_mem _ _ _ (fun h => absurd (of_sumRect h).2 (show (0 : Fin 2) ≠ 1 by decide))]
    rw [← topRect_emb a b d]
    refine (View.write_emb_of_mem (v := statBuf.access topRect) (Val := Elt F) f _ (Finset.mem_univ _)).trans ?_
    rw [topRect_emb]
    exact hcast M _
  · rw [← sumRect_emb a b d]
    refine (View.write_emb_of_mem (v := statBuf.access sumRect) (Val := Elt F) _ _ (Finset.mem_univ _)).trans ?_
    rw [sumRect_emb]
    exact hcast L _

/-- The device's vectors are copied into its sending slots. -/
theorem part1_run (c : Dev nD) (i : grid0.Coords) (w1 w2 w3 : BitVec 32)
    (M1 : Memref sig .tc .vmem S16x1x16x64 .f32) (hM1 : M1.IsWhole) (M2 M3 : Memref sig .tc .vmem S16x2x64x1024 .f32) (hM2 : M2.IsWhole)
    (hM3 : M3.IsWhole) (M4 : Memref sig .tc .vmem S16x1024 .f32) (hM4 : M4.IsWhole)
    (M5 M6 : Memref sig .tc .vmem S8x16x2 .f32) (hM5 : M5.IsWhole) (hM6 : M6.IsWhole) (M7 : Memref sig .tc .vmem S16x1024 .f32) (hM7 : M7.IsWhole)
    (M8 : Memref sig .tc .vmem S16x16x64x1 .f32) (hM8 : M8.IsWhole) (h9 : accBuf.IsWhole) (h10 : statBuf.IsWhole)
    (m l : S8x16x2.Idx → F .f32) (a : S16x1024.Idx → F .f32) (Q : PUnit → sProp 𝕄) :
    iprop(owns (c : Thread nD τ) M5 fullShare m ∗ owns (c : Thread nD τ) M6 fullShare l ∗ owns (c : Thread nD τ) M7 fullShare a
      ∗ (∃ f, accOutPts c f) ∗ (∃ f, statOutPts c f)
      ∗ ((owns (c : Thread nD τ) M5 fullShare m ∗ owns (c : Thread nD τ) M6 fullShare l ∗ owns (c : Thread nD τ) M7 fullShare a
        ∗ accOutPts c (accWire a) ∗ statOutPts c (statWire m l)) -∗ Q ⟨⟩))
    ⊢ wp frame (wpE (defs₀ (F := F)) 𝒱₀ (c : Thread nD τ) none) Set.univ
      (k0_part1 i M1 hM1 M2 hM2 M3 hM3 M4 hM4 M5 hM5 M6 hM6 M7 hM7 M8 hM8 accBuf h9 statBuf h10 cc0_scratch6 cc0_scratch7 w1 w2 w3) Q := by
  rw [k0_part1_eq_skeleton]; delta k0_part1_skel
  have hacc := accRect_in
  have htop := topRect_in
  have hsum := sumRect_in
  unfold owns accOutPts statOutPts
  iintro ⟨⟨%fm, %hm, Hm⟩, ⟨%fl, %hl, Hl⟩, ⟨%fa, %ha, Ha⟩, ⟨%fc, Hc⟩, ⟨%fs, Hs⟩, HQ⟩
  subst hm hl ha
  sl_exec
  sl_step
  unfold part1_run.sl.Hc_w1 part1_run.sl.Hs_w3 part1_run.sl.Hs_w2
  rw [View.readAt_full, View.readAt_full, View.readAt_full]
  iapply HQ
  isplitl [Hm]
  · iexists fm; isplitr
    · ipureintro; rfl
    iexact Hm
  isplitl [Hl]
  · iexists fl; isplitr
    · ipureintro; rfl
    iexact Hl
  isplitl [Ha]
  · iexists fa; isplitr
    · ipureintro; rfl
    iexact Ha
  isplitl [Hc]
  · iapply (Entails.of_eq (pointsTo_congr (acc_stored _ fc))) $$ Hc
  iapply (Entails.of_eq (pointsTo_congr (stat_stored _ _ fs))) $$ Hs

end Cert.FlashDecode
-- ==== Proof.Talk.lean ====
/-
  The last point's exchange: the two transfers to the partner and the waits for them.
-/
module

public import proofs.«01_k».proof.Proof.Fill
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Dev nD → Partial F)

/-- Waiting for a transfer's whole credit, owing nothing, brings the round's payload and the semaphore back at zero. -/
theorem dma_wait (K : GSem nD τ sig → ℕ) (c : Dev nD) (W : Waits sig Unit) {sem : DmaSem sig} {n : ℕ} {P : sProp 𝕄}
    (h : InTalk ((c : Thread nD τ), SemLoc.dma sem)) (hn : (talk X).amount ((c : Thread nD τ), .dma sem) 0 () = n)
    (hP : (talk X).payload ((c : Thread nD τ), .dma sem) 0 () = P)
    {sp sp' : Space} {s s' : Shape} {e e' : EltTy} {src : Memref sig .tc sp' s' e'} {dst : Memref sig .tc sp s e}
    {hsrc : src.view.WordExact} {hdst : dst.view.WordExact} (hd : dst.view.dmaCredit = n)
    {α : Type} {k : PUnit → Prog (TpuEff nD τ sig (Elt F) Λ₀ .tc) α} {Q : α → sProp 𝕄} :
    iprop(cellInv ER (talk X) (K ((c : Thread nD τ), .dma sem)) ((c : Thread nD τ), .dma sem)
        ∗ cred (tallyAt ((c : Thread nD τ), .dma sem) () n) ∗ owes (c : Thread nD τ) 0 W ∗ atPos ER ((c : Thread nD τ), .dma sem) 0 ∅ 0)
      ⊢ iprop((((∃ W, owes (c : Thread nD τ) 0 W) ∗ P ∗ semVal ((c : Thread nD τ), .dma sem) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hd
  iintro ⟨#HI, Hcr, HO, Hat⟩ HQ
  iapply (Rounds.wp_wait_rest_token 𝒱₀ ER (talk X) (c : Thread nD τ) none (κ := K ((c : Thread nD τ), .dma sem))
      (wpE_waitDma2_eq 𝒱₀ (c : Thread nD τ) none Set.univ) (Set.mem_univ _) () (O := 0) (W := W) (R := 0) (m := 0) (T := ∅)
      ((Nat.zero_add _).trans (expect_of X h hn).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hpay := (Entails.of_eq (rest_of X h hP)) $$ Hpay
  imod (Rounds.cell_close ER (talk X) (Set.mem_univ (K ((c : Thread nD τ), .dma sem))) (fun h => h) (R := 0 + 1) (duties_later X _)) $$ [Hat] with Hz
  · isplitr; · iexact HI
    iexact Hat
  iapply HQ
  isplitl [HO]; · iexists _; iexact HO
  isplitl [Hpay]; · iexact Hpay
  iexact Hz

/-- The transfer of the outputs to the partner. -/
theorem acc_send (K : GSem nD τ sig → ℕ) (c d : Dev nD) (hd : d = mate c) (W : Waits sig Unit) (f : S2x16x1024.Idx → F .f32)
    {hsrc : accOut.view.WordExact} {hdst : accIn.view.WordExact} {hsc : accIn.view.ref.isScScratch = false}
    {hsem : DmaTarget.Typed .vmem (.dma accRecvS) (.remote (d : Thread nD τ) accIn (.dma accSendS) hsc)}
    {α : Type} {k : PUnit → Prog (TpuEff nD τ sig (Elt F) Λ₀ .tc) α} {Q : α → sProp 𝕄} :
    iprop(cellInv ER (talk X) (K (accSend c)) (accSend c) ∗ cellInv ER (talk X) (K (accRecv (mate c))) (accRecv (mate c))
        ∗ accOutPts c (accWire (X c).acc) ∗ accInPts (mate c) f ∗ owes (c : Thread nD τ) (owesRecv c) W
        ∗ dutyTok ER (accSend c) 0 () ∗ reached ER (accSend c) 0 ∗ dutyTok ER (accRecv (mate c)) 0 () ∗ reached ER (accRecv (mate c)) 0)
      ⊢ iprop(((cred (tallyAt (accSend c) () accN) ∗ owes (c : Thread nD τ) (tallyAt (statRecv (mate c)) () statN) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma accOut (.remote (d : Thread nD τ) accIn (.dma accSendS) hsc) (.dma accRecvS) hsrc hdst hsem) k) Q) := by
  subst hd
  exact Rounds.wp_send_pointsTo 𝒱₀ ER (talk X) (c : Thread nD τ) none (d₁ := ()) (d₂ := ())
    (by rw [duties_of X (in_accSend c)]; exact Finset.mem_singleton_self _) (by rw [duties_of X (in_accRecv (mate c))]; exact Finset.mem_singleton_self _)
    () () accN rfl (amount_accSend X c ()) (amount_accRecv X (mate c) ()) (tallyAt (statRecv (mate c)) () statN)
    (by unfold owesRecv; exact add_comm _ _)
    (by rw [payload_accSend]; exact .rfl)
    (by
      rw [payload_accRecv]; unfold accRecvPay accInPts; rw [mate_mate]
      exact Entails.of_eq (pointsTo_congr (acc_landed (X c).acc f)))

/-- The transfer of the maxima and the sums to the partner. -/
theorem stat_send (K : GSem nD τ sig → ℕ) (c d : Dev nD) (hd : d = mate c) (W : Waits sig Unit) (f : S2x2x8x16x2.Idx → F .f32)
    {hsrc : statOut.view.WordExact} {hdst : statIn.view.WordExact} {hsc : statIn.view.ref.isScScratch = false}
    {hsem : DmaTarget.Typed .vmem (.dma statRecvS) (.remote (d : Thread nD τ) statIn (.dma statSendS) hsc)}
    {α : Type} {k : PUnit → Prog (TpuEff nD τ sig (Elt F) Λ₀ .tc) α} {Q : α → sProp 𝕄} :
    iprop(cellInv ER (talk X) (K (statSend c)) (statSend c) ∗ cellInv ER (talk X) (K (statRecv (mate c))) (statRecv (mate c))
        ∗ statOutPts c (statWire (X c).top (X c).sum) ∗ statInPts (mate c) f ∗ owes (c : Thread nD τ) (tallyAt (statRecv (mate c)) () statN) W
        ∗ dutyTok ER (statSend c) 0 () ∗ reached ER (statSend c) 0 ∗ dutyTok ER (statRecv (mate c)) 0 () ∗ reached ER (statRecv (mate c)) 0)
      ⊢ iprop(((cred (tallyAt (statSend c) () statN) ∗ owes (c : Thread nD τ) 0 W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma statOut (.remote (d : Thread nD τ) statIn (.dma statSendS) hsc) (.dma statRecvS) hsrc hdst hsem) k) Q) := by
  subst hd
  exact Rounds.wp_send_pointsTo 𝒱₀ ER (talk X) (c : Thread nD τ) none (d₁ := ()) (d₂ := ())
    (by rw [duties_of X (in_statSend c)]; exact Finset.mem_singleton_self _) (by rw [duties_of X (in_statRecv (mate c))]; exact Finset.mem_singleton_self _)
    () () statN rfl (amount_statSend X c ()) (amount_statRecv X (mate c) ()) 0
    (zero_add _).symm
    (by rw [payload_statSend]; exact .rfl)
    (by
      rw [payload_statRecv]; unfold statRecvPay statInPts; rw [mate_mate]
      exact Entails.of_eq (pointsTo_congr (stat_landed (X c).top (X c).sum f)))

/-- The invariants of the cells a device's transfers touch. -/
def talkInvs (K : GSem nD τ sig → ℕ) (c : Dev nD) : sProp 𝕄 :=
  iprop(cellInv ER (talk X) (K (accSend c)) (accSend c) ∗ cellInv ER (talk X) (K (statSend c)) (statSend c)
    ∗ cellInv ER (talk X) (K (accRecv c)) (accRecv c) ∗ cellInv ER (talk X) (K (statRecv c)) (statRecv c)
    ∗ cellInv ER (talk X) (K (accRecv (mate c))) (accRecv (mate c)) ∗ cellInv ER (talk X) (K (statRecv (mate c))) (statRecv (mate c)))

/-- What a device holds, besides the invariants, for its two transfers and the four waits. -/
def talkRights (c : Dev nD) : sProp 𝕄 :=
  iprop(reached ER (accSend c) 0 ∗ reached ER (statSend c) 0
    ∗ dutyTok ER (accSend c) 0 () ∗ dutyTok ER (statSend c) 0 () ∗ dutyTok ER (accRecv (mate c)) 0 () ∗ dutyTok ER (statRecv (mate c)) 0 ()
    ∗ atPos ER (accSend c) 0 ∅ 0 ∗ atPos ER (statSend c) 0 ∅ 0 ∗ atPos ER (accRecv c) 0 ∅ 0 ∗ atPos ER (statRecv c) 0 ∅ 0
    ∗ cred (tallyAt (accRecv c) () accN) ∗ cred (tallyAt (statRecv c) () statN))

/-- After both transfers have been issued and the first has been waited for. -/
def talkMid (c : Dev nD) : sProp 𝕄 :=
  iprop(atPos ER (statSend c) 0 ∅ 0 ∗ atPos ER (accRecv c) 0 ∅ 0 ∗ atPos ER (statRecv c) 0 ∅ 0
    ∗ cred (tallyAt (statSend c) () statN) ∗ cred (tallyAt (accRecv c) () accN) ∗ cred (tallyAt (statRecv c) () statN)
    ∗ accOutPts c (accWire (X c).acc) ∗ semVal (accSend c) 0 ∗ ∃ W, owes (c : Thread nD τ) 0 W)

/-- After three of the four waits. -/
def talkLate (c : Dev nD) : sProp 𝕄 :=
  iprop(atPos ER (statRecv c) 0 ∅ 0 ∗ cred (tallyAt (statRecv c) () statN)
    ∗ accOutPts c (accWire (X c).acc) ∗ statOutPts c (statWire (X c).top (X c).sum) ∗ accInPts c (accWire (X (mate c)).acc)
    ∗ semVal (accSend c) 0 ∗ semVal (statSend c) 0 ∗ semVal (accRecv c) 0 ∗ ∃ W, owes (c : Thread nD τ) 0 W)

/-- Both transfers are issued, and the first one's sending waited for. -/
theorem part2_run (K : GSem nD τ sig → ℕ) (W : Waits sig Unit) (c : Dev nD) (i : grid0.Coords) (h2 : k0_cond2 i = 1#1) (w1 w2 w3 : BitVec 32)
    (M1 : Memref sig .tc .vmem S16x1x16x64 .f32) (hM1 : M1.IsWhole) (M2 M3 : Memref sig .tc .vmem S16x2x64x1024 .f32) (hM2 : M2.IsWhole)
    (hM3 : M3.IsWhole) (M4 : Memref sig .tc .vmem S16x1024 .f32) (hM4 : M4.IsWhole)
    (M5 M6 : Memref sig .tc .vmem S8x16x2 .f32) (hM5 : M5.IsWhole) (hM6 : M6.IsWhole) (M7 : Memref sig .tc .vmem S16x1024 .f32) (hM7 : M7.IsWhole)
    (M8 : Memref sig .tc .vmem S16x16x64x1 .f32) (hM8 : M8.IsWhole) (h9 : accBuf.IsWhole) (h10 : statBuf.IsWhole)
    (Q : (Σ' (_ : BitVec 32), BitVec 32) → sProp 𝕄) :
    iprop(talkInvs X K c ∗ talkRights c ∗ barPay c ∗ accOutPts c (accWire (X c).acc) ∗ statOutPts c (statWire (X c).top (X c).sum)
      ∗ owes (c : Thread nD τ) (owesRecv c) W ∗ (∀ r, talkMid X c -∗ Q r))
    ⊢ wp frame (wpE (defs₀ (F := F)) 𝒱₀ (c : Thread nD τ) none) Set.univ
      (k0_part2 i M1 hM1 M2 hM2 M3 hM3 M4 hM4 M5 hM5 M6 hM6 M7 hM7 M8 hM8 accBuf h9 statBuf h10 cc0_scratch6 cc0_scratch7 c w1 w2 w3 h2) Q := by
  rw [k0_part2_eq_skeleton]; delta k0_part2_skel
  unfold talkInvs talkRights barPay talkMid
  simp (proj := false) only [Prog.lift, Prog.bind_op, Prog.bind_ret, Prog.bind_assoc, Prog.pure_eq_ret]
  iintro ⟨⟨#HIa, #HIs, #HIar, #HIsr, #HIap, #HIsp⟩, ⟨#Hra, #Hrs, Ha, Hs, Hap, Hsp, Pa, Ps, Par, Psr, Car, Csr⟩, ⟨⟨%fa, Hfa⟩, ⟨%fs, Hfs⟩, #Hrap, #Hrsp⟩, Hacc, Hstat, HO, HQ⟩
  iapply (acc_send X K c _ (mate_of_dev2 c _) W fa) $$ [Ha Hap Hfa Hacc HO]
  · isplitr; · iexact HIa
    isplitr; · iexact HIap
    isplitl [Hacc]; · iexact Hacc
    isplitl [Hfa]; · iexact Hfa
    isplitl [HO]; · iexact HO
    isplitl [Ha]; · iexact Ha
    isplitr; · iexact Hra
    isplitl [Hap]; · iexact Hap
    iexact Hrap
  iintro ⟨Ca, HO⟩
  iapply (stat_send X K c _ (mate_of_dev3 c _) W fs) $$ [Hs Hsp Hfs Hstat HO]
  · isplitr; · iexact HIs
    isplitr; · iexact HIsp
    isplitl [Hstat]; · iexact Hstat
    isplitl [Hfs]; · iexact Hfs
    isplitl [HO]; · iexact HO
    isplitl [Hs]; · iexact Hs
    isplitr; · iexact Hrs
    isplitl [Hsp]; · iexact Hsp
    iexact Hrsp
  iintro ⟨Cs, HO⟩
  iapply (dma_wait X K c W (in_accSend c) (amount_accSend X c ()) (payload_accSend X c ()) (src := accIn) (dst := accOut) rfl) $$ [Pa Ca HO]
  · isplitr; · iexact HIa
    isplitl [Ca]; · iexact Ca
    isplitl [HO]; · iexact HO
    iexact Pa
  iintro ⟨HO, Hacc, Za⟩
  sl_step
  iapply HQ
  isplitl [Ps]; · iexact Ps
  isplitl [Par]; · iexact Par
  isplitl [Psr]; · iexact Psr
  isplitl [Cs]; · iexact Cs
  isplitl [Car]; · iexact Car
  isplitl [Csr]; · iexact Csr
  isplitl [Hacc]; · unfold accSendPay; iexact Hacc
  isplitl [Za]; · iexact Za
  iexact HO

/-- The partner's outputs arrive, and the second transfer has been sent. -/
theorem part3_run (K : GSem nD τ sig → ℕ) (c : Dev nD) (i : grid0.Coords) (w1 w2 w3 w4 w5 : BitVec 32)
    (M1 : Memref sig .tc .vmem S16x1x16x64 .f32) (hM1 : M1.IsWhole) (M2 M3 : Memref sig .tc .vmem S16x2x64x1024 .f32) (hM2 : M2.IsWhole)
    (hM3 : M3.IsWhole) (M4 : Memref sig .tc .vmem S16x1024 .f32) (hM4 : M4.IsWhole)
    (M5 M6 : Memref sig .tc .vmem S8x16x2 .f32) (hM5 : M5.IsWhole) (hM6 : M6.IsWhole) (M7 : Memref sig .tc .vmem S16x1024 .f32) (hM7 : M7.IsWhole)
    (M8 : Memref sig .tc .vmem S16x16x64x1 .f32) (hM8 : M8.IsWhole) (h9 : accBuf.IsWhole) (h10 : statBuf.IsWhole)
    (Q : PUnit → sProp 𝕄) :
    iprop(talkInvs X K c ∗ talkMid X c ∗ (talkLate X c -∗ Q ⟨⟩))
    ⊢ wp frame (wpE (defs₀ (F := F)) 𝒱₀ (c : Thread nD τ) none) Set.univ
      (k0_part3 i M1 hM1 M2 hM2 M3 hM3 M4 hM4 M5 hM5 M6 hM6 M7 hM7 M8 hM8 accBuf h9 statBuf h10 cc0_scratch6 cc0_scratch7 w1 w2 w3 w4 w5) Q := by
  rw [k0_part3_eq_skeleton]; delta k0_part3_skel
  unfold talkInvs talkMid talkLate
  simp (proj := false) only [Prog.lift, Prog.bind_op, Prog.bind_ret, Prog.bind_assoc, Prog.pure_eq_ret]
  iintro ⟨⟨-, #HIs, #HIar, -, -, -⟩, ⟨Ps, Par, Psr, Cs, Car, Csr, Hacc, Za, %W, HO⟩, HQ⟩
  iapply (dma_wait X K c W (in_accRecv c) (amount_accRecv X c ()) (payload_accRecv X c ()) (src := accOut) (dst := accIn) rfl) $$ [Par Car HO]
  · isplitr; · iexact HIar
    isplitl [Car]; · iexact Car
    isplitl [HO]; · iexact HO
    iexact Par
  iintro ⟨⟨%W', HO⟩, Hin, Zar⟩
  iapply (dma_wait X K c W' (in_statSend c) (amount_statSend X c ()) (payload_statSend X c ()) (src := statIn) (dst := statOut) rfl) $$ [Ps Cs HO]
  · isplitr; · iexact HIs
    isplitl [Cs]; · iexact Cs
    isplitl [HO]; · iexact HO
    iexact Ps
  iintro ⟨HO, Hst, Zs⟩
  sl_step
  iapply HQ
  isplitl [Psr]; · iexact Psr
  isplitl [Csr]; · iexact Csr
  isplitl [Hacc]; · iexact Hacc
  isplitl [Hst]; · unfold statSendPay; iexact Hst
  isplitl [Hin]; · unfold accRecvPay; iexact Hin
  isplitl [Za]; · iexact Za
  isplitl [Zs]; · iexact Zs
  isplitl [Zar]; · iexact Zar
  iexact HO

end Cert.FlashDecode
-- ==== Proof.Finish.lean ====
/-
  The last grid point: the partial results are exchanged and the result combined from both devices' halves. What a device stores,
  `outOf`, is named tile by tile: one tile of 128 columns belongs to the two heads of one grid point.
-/
module

public import proofs.«01_k».proof.Proof.Talk
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Dev nD → Partial F)

omit [FloatOps F] in
/-- A tile of 128 columns written over an array of 1024. -/
theorem put_tile {α : Type} (x : S16x1024.Idx → α) (o : ℕ) (ho : o % 128 = 0) (w : S16x128.Idx → α) (r : Fin 16) (b : Fin 1024) :
    VecWindow.put x ![0, o] S16x128.size w (ix2 r b)
      = if b.val / 128 = o / 128 then w (ix2 r ⟨b.val % 128, Nat.mod_lt _ (by decide)⟩) else x (ix2 r b) := by
  unfold VecWindow.put
  have hr := r.isLt
  by_cases hb : b.val / 128 = o / 128
  · have hin : ∀ a, ![0, o] a ≤ (ix2 r b a).val ∧ (ix2 r b a).val < ![0, o] a + S16x128.size a := by
      intro a
      match a with
      | 0 => exact ⟨Nat.zero_le _, by show r.val < 0 + 16; omega⟩
      | 1 => exact ⟨by show o ≤ b.val; omega, by show b.val < o + 128; omega⟩
    rw [dif_pos hin, if_pos hb]
    congr 1
    funext a
    match a with
    | 0 => exact Fin.ext (by show r.val - 0 = r.val; omega)
    | 1 => exact Fin.ext (by show b.val - o = b.val % 128; omega)
  · rw [if_neg hb, dif_neg]
    intro h
    have h1 : o ≤ b.val ∧ b.val < o + 128 := h 1
    omega

theorem inb_top : ∀ (h : Fin 8) a, ![h.val, 0, 0] a + S1x16x2.size a ≤ S8x16x2.size a := by decide
theorem inb_stat : ∀ (r : Fin 2) (h : Fin 8) a, ![1, r.val, h.val, 0, 0] a + S1x1x1x16x2.size a ≤ S2x2x8x16x2.size a := by decide
theorem inb_acc : ∀ (h : Fin 8) a, ![0, 128 * h.val] a + S16x128.size a ≤ S16x1024.size a := by decide
theorem inb_wire : ∀ (h : Fin 8) a, ![1, 0, 128 * h.val] a + S1x16x128.size a ≤ S2x16x1024.size a := by decide

/-- The result's tile of the two heads of point `h`, from a device's own partial results and those of its partner. -/
def outTile (P P' : Partial F) (h : Fin 8) : S16x128.Idx → F .f32 :=
  k0_pay6 k0_pay38 (VecWindow.window P.top ![h.val, 0, 0] S1x16x2.size (inb_top h)) (VecWindow.window P.sum ![h.val, 0, 0] S1x16x2.size (inb_top h))
    (VecWindow.window (statWire P'.top P'.sum) ![1, (0 : Fin 2).val, h.val, 0, 0] S1x1x1x16x2.size (inb_stat 0 h))
    (VecWindow.window (statWire P'.top P'.sum) ![1, (1 : Fin 2).val, h.val, 0, 0] S1x1x1x16x2.size (inb_stat 1 h))
    (VecWindow.window P.acc ![0, 128 * h.val] S16x128.size (inb_acc h))
    (VecWindow.window (accWire P'.acc) ![1, 0, 128 * h.val] S1x16x128.size (inb_wire h))

/-- The result a device stores. -/
def outOf (P P' : Partial F) : S16x1024.Idx → F .f32 := fun j =>
  outTile P P' ⟨(j 1).val / 128, by have : (j 1).val < 1024 := (j 1).isLt; omega⟩ (ix2 (n0 := 16) (n1 := 128) (j 0) ⟨(j 1).val % 128, Nat.mod_lt _ (by decide)⟩)

omit [FloatOps F] in
/-- Eight tiles written one after the other are the whole array. -/
theorem tiles_cover {α : Type} (x : S16x1024.Idx → α) (w : Fin 8 → S16x128.Idx → α) :
    VecWindow.put (VecWindow.put (VecWindow.put (VecWindow.put (VecWindow.put (VecWindow.put (VecWindow.put (VecWindow.put x
        ![0, 0] S16x128.size (w 0)) ![0, 128] S16x128.size (w 1)) ![0, 256] S16x128.size (w 2)) ![0, 384] S16x128.size (w 3))
        ![0, 512] S16x128.size (w 4)) ![0, 640] S16x128.size (w 5)) ![0, 768] S16x128.size (w 6)) ![0, 896] S16x128.size (w 7)
      = fun j => w ⟨(j 1).val / 128, by have : (j 1).val < 1024 := (j 1).isLt; omega⟩ (ix2 (n0 := 16) (n1 := 128) (j 0) ⟨(j 1).val % 128, Nat.mod_lt _ (by decide)⟩) := by
  funext j
  obtain ⟨r, b, rfl⟩ : ∃ r b, j = ix2 (n0 := 16) (n1 := 1024) r b := ⟨j 0, j 1, eq_ix2 j⟩
  rw [put_tile _ _ rfl, put_tile _ _ rfl, put_tile _ _ rfl, put_tile _ _ rfl, put_tile _ _ rfl, put_tile _ _ rfl, put_tile _ _ rfl, put_tile _ _ rfl]
  show _ = w ⟨b.val / 128, _⟩ (ix2 r ⟨b.val % 128, _⟩)
  have hb : b.val / 128 < 8 := by have := b.isLt; omega
  have hw : ∀ t (ht : t < 8), (if t = 7 then w 7 else if t = 6 then w 6 else if t = 5 then w 5 else if t = 4 then w 4 else if t = 3 then w 3
      else if t = 2 then w 2 else if t = 1 then w 1 else w 0) = w ⟨t, ht⟩ := by
    intro t ht
    interval_cases t <;> rfl
  rw [← hw _ hb]
  by_cases h0 : b.val / 128 = 0
  · rw [h0]; rfl
  · split_ifs <;> first | rfl | omega

instance talkInvs_persistent (K : GSem nD τ sig → ℕ) (c : Dev nD) : BI.Persistent (talkInvs X K c) := by unfold talkInvs; infer_instance

/-- What the last point has to start with for the exchange, -/
def talkStart (K : GSem nD τ sig → ℕ) (c : Dev nD) (W : Waits sig Unit) : sProp 𝕄 :=
  iprop(talkInvs X K c ∗ talkRights c ∗ barPay c ∗ (∃ f, accOutPts c f) ∗ (∃ f, statOutPts c f) ∗ owes (c : Thread nD τ) (owesRecv c) W)

/-- and what it is left with. -/
def talkDone (c : Dev nD) : sProp 𝕄 :=
  iprop(accOutPts c (accWire (X c).acc) ∗ statOutPts c (statWire (X c).top (X c).sum)
    ∗ accInPts c (accWire (X (mate c)).acc) ∗ statInPts c (statWire (X (mate c)).top (X (mate c)).sum)
    ∗ semVal (accSend c) 0 ∗ semVal (statSend c) 0 ∗ semVal (accRecv c) 0 ∗ semVal (statRecv c) 0 ∗ ∃ W, owes (c : Thread nD τ) 0 W)

theorem body_last (K : GSem nD τ sig → ℕ) (W : Waits sig Unit) (c : Dev nD) (i : grid0.Coords) (h1 : ¬ k0_cond1 i = 1#1) (h2 : k0_cond2 i = 1#1)
    (M1 : Memref sig .tc .vmem S16x1x16x64 .f32) (hM1 : M1.IsWhole) (M2 M3 : Memref sig .tc .vmem S16x2x64x1024 .f32) (hM2 : M2.IsWhole)
    (hM3 : M3.IsWhole) (M4 : Memref sig .tc .vmem S16x1024 .f32) (hM4 : M4.IsWhole)
    (M5 M6 : Memref sig .tc .vmem S8x16x2 .f32) (hM5 : M5.IsWhole) (hM6 : M6.IsWhole) (M7 : Memref sig .tc .vmem S16x1024 .f32) (hM7 : M7.IsWhole)
    (M8 : Memref sig .tc .vmem S16x16x64x1 .f32) (hM8 : M8.IsWhole) (h9 : accBuf.IsWhole) (h10 : statBuf.IsWhole)
    (k v : S16x2x64x1024.Idx → F .f32) (m l : S8x16x2.Idx → F .f32) (a : S16x1024.Idx → F .f32) (q : S16x16x64x1.Idx → F .f32) (o : S16x1024.Idx → F .f32)
    (hX : X c = ⟨putTop i m (topOf i q k), putTop i l (sumOf i q k), putAcc i a (accOf i q k v)⟩)
    (Q : PUnit → sProp 𝕄) :
    iprop(owns (c : Thread nD τ) M2 fullShare k ∗ owns (c : Thread nD τ) M3 fullShare v
      ∗ owns (c : Thread nD τ) M5 fullShare m ∗ owns (c : Thread nD τ) M6 fullShare l ∗ owns (c : Thread nD τ) M7 fullShare a ∗ owns (c : Thread nD τ) M8 fullShare q
      ∗ owns (c : Thread nD τ) M4 fullShare o ∗ talkStart X K c W
      ∗ ((owns (c : Thread nD τ) M2 fullShare k ∗ owns (c : Thread nD τ) M3 fullShare v
        ∗ owns (c : Thread nD τ) M5 fullShare (X c).top ∗ owns (c : Thread nD τ) M6 fullShare (X c).sum ∗ owns (c : Thread nD τ) M7 fullShare (X c).acc
        ∗ owns (c : Thread nD τ) M8 fullShare q ∗ owns (c : Thread nD τ) M4 fullShare (outOf (X c) (X (mate c))) ∗ talkDone X c) -∗ Q ⟨⟩))
    ⊢ wp frame (wpE (defs₀ (F := F)) 𝒱₀ (c : Thread nD τ) none) Set.univ
      (cc0_body i M1 hM1 M2 hM2 M3 hM3 M4 hM4 M5 hM5 M6 hM6 M7 hM7 M8 hM8 accBuf h9 statBuf h10 cc0_scratch6 cc0_scratch7) Q := by
  rw [cc0_body_eq_skeleton]; delta cc0_body_skel
  simp (proj := false) only [k0_part11_eq_skeleton, k0_part12_eq_skeleton]; unfold k0_part11_skel k0_part12_skel
  obtain ⟨p1, hp1⟩ : ∃ p, p = @k0_part1 F _ := ⟨_, rfl⟩
  rw [← hp1, k0_part4_eq_skeleton, k0_part5_eq_skeleton, k0_part6_eq_skeleton, k0_part7_eq_skeleton, k0_part8_eq_skeleton, k0_part9_eq_skeleton, k0_part10_eq_skeleton]
  have hcond : k0_cond2 i = 1#1 := h2
  unfold owns
  iintro ⟨⟨%fk, %hk, Hk⟩, ⟨%fv, %hv, Hv⟩, ⟨%fm, %hm, Hm⟩, ⟨%fl, %hl, Hl⟩, ⟨%fa, %ha, Ha⟩, ⟨%fq, %hq, Hq⟩, ⟨%fo, %ho, Ho⟩, Htalk, HQ⟩
  subst hk hv hm hl ha hq ho
  sl_exec
  subst hp1
  rw [wp_bind]
  unfold talkStart
  icases Htalk with ⟨#HI, HR, Hbar, Hao, Hso, HO⟩
  iapply (part1_run c i _ _ _ M1 hM1 M2 M3 hM2 hM3 M4 hM4 M5 M6 hM5 hM6 M7 hM7 M8 hM8 h9 h10 (X c).top (X c).sum (X c).acc)
  isplitl [Hm]
  · unfold owns; iexists _; isplitr; swap; · iexact Hm
    ipureintro
    rw [View.read_writes_cons_put _ _ _ _ _ rfl, View.readAt_full, hX]; rfl
  isplitl [Hl]
  · unfold owns; iexists _; isplitr; swap; · iexact Hl
    ipureintro
    rw [View.read_writes_cons_put _ _ _ _ _ rfl, View.readAt_full, hX]; rfl
  isplitl [Ha]
  · unfold owns; iexists _; isplitr; swap; · iexact Ha
    ipureintro
    rw [View.read_writes_cons_put _ _ _ _ _ rfl, View.readAt_full, View.readAt_full, hX]; rfl
  isplitl [Hao]; · iexact Hao
  isplitl [Hso]; · iexact Hso
  iintro ⟨Hm, Hl, Ha, Hao, Hso⟩
  rw [wp_bind]
  iapply (part2_run X K W c i h2 _ _ _ M1 hM1 M2 M3 hM2 hM3 M4 hM4 M5 M6 hM5 hM6 M7 hM7 M8 hM8 h9 h10)
  isplitr; · iexact HI
  isplitl [HR]; · iexact HR
  isplitl [Hbar]; · iexact Hbar
  isplitl [Hao]; · iexact Hao
  isplitl [Hso]; · iexact Hso
  isplitl [HO]; · iexact HO
  iintro %r Hmid
  rw [wp_bind]
  iapply (part3_run X K c i _ _ _ _ _ M1 hM1 M2 M3 hM2 hM3 M4 hM4 M5 M6 hM5 hM6 M7 hM7 M8 hM8 h9 h10)
  isplitr; · iexact HI
  isplitl [Hmid]; · iexact Hmid
  unfold talkLate
  iintro ⟨Pr, Cr, Hao, Hso, Hai, Zas, Zss, Zar, %W', HO⟩
  delta k0_part4_skel
  simp (proj := false) only [Prog.lift, Prog.bind_op, Prog.bind_ret, Prog.bind_assoc, Prog.pure_eq_ret]
  unfold talkInvs
  icases HI with ⟨-, -, -, #HIsr, -, -⟩
  iapply (dma_wait X K c W' (in_statRecv c) (amount_statRecv X c ()) (payload_statRecv X c ()) (src := statOut) (dst := statIn) rfl) $$ [Pr Cr HO]
  · isplitr; · iexact HIsr
    isplitl [Cr]; · iexact Cr
    isplitl [HO]; · iexact HO
    iexact Pr
  iintro ⟨HO, Hsi, Zsr⟩
  delta k0_part5_skel k0_part6_skel k0_part7_skel k0_part8_skel k0_part9_skel k0_part10_skel
  unfold statRecvPay accInPts statInPts owns
  icases Hm with ⟨%fm', %hm, Hm⟩
  icases Hl with ⟨%fl', %hl, Hl⟩
  icases Ha with ⟨%fa', %ha, Ha⟩
  sl_exec
  sl_step
  iapply HQ
  isplitl [Hk]
  · iexists fk; isplitr
    · ipureintro; rfl
    iexact Hk
  isplitl [Hv]
  · iexists fv; isplitr
    · ipureintro; rfl
    iexact Hv
  isplitl [Hm]
  · iexists fm'; isplitr
    · ipureintro; exact hm
    iexact Hm
  isplitl [Hl]
  · iexists fl'; isplitr
    · ipureintro; exact hl
    iexact Hl
  isplitl [Ha]
  · iexists fa'; isplitr
    · ipureintro; exact ha
    iexact Ha
  isplitl [Hq]
  · iexists fq; isplitr
    · ipureintro; rfl
    iexact Hq
  isplitl [Ho]
  · iexists _; isplitr; swap; · iexact Ho
    ipureintro
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl]
    unfold outOf
    rw [← tiles_cover]
    unfold outTile
    rw [← ha, ← hl, ← hm]
    rfl
  unfold talkDone accInPts statInPts
  isplitl [Hao]; · iexact Hao
  isplitl [Hso]; · iexact Hso
  isplitl [Hai]; · iexact Hai
  isplitl [Hsi]; · iexact Hsi
  isplitl [Zas]; · iexact Zas
  isplitl [Zss]; · iexact Zss
  isplitl [Zar]; · iexact Zar
  isplitl [Zsr]; · iexact Zsr
  iexact HO

end Cert.FlashDecode
-- ==== Proof.Parts.lean ====
/-
  A device's partial results as functions of the blocks it stages: each grid point computes one row of the statistics and one tile
  of the outputs, and after `n` points the running vectors agree with the whole on what those points compute.
-/
module

public import proofs.«01_k».proof.Proof.Finish
public import proofs.«01_k».proof.Proof.Gen.KernelIdeal.Frame
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Grid point number `n`. -/
def point (n : Fin 8) : Fin cfg0.N := ⟨n.val, by rw [show cfg0.N = 8 from N_0]; exact n.isLt⟩

/-- The blocks the region finds: the query, and a point's keys and values. -/
def blkQ (c : Dev nD) : S16x1x16x64.Idx → F .f32 := iblk m c 0 (point 0)
def blkK (c : Dev nD) (t : Fin cfg0.N) : S16x2x64x1024.Idx → F .f32 := iblk m c 1 t
def blkV (c : Dev nD) (t : Fin cfg0.N) : S16x2x64x1024.Idx → F .f32 := iblk m c 2 t
/-- The scaled query. -/
def scaledQ (c : Dev nD) : S16x16x64x1.Idx → F .f32 := k0_pay39 (blkQ m c)

/-- A device's partial results: what each point computes, side by side. -/
def parts (c : Dev nD) : Partial F where
  top j := topOf (grid0.coords (point (j 0))) (scaledQ m c) (blkK m c (point (j 0))) (ix3 (n0 := 1) (n1 := 16) (n2 := 2) 0 (j 1) (j 2))
  sum j := sumOf (grid0.coords (point (j 0))) (scaledQ m c) (blkK m c (point (j 0))) (ix3 (n0 := 1) (n1 := 16) (n2 := 2) 0 (j 1) (j 2))
  acc j :=
    let t := point ⟨(j 1).val / 128, by have : (j 1).val < 1024 := (j 1).isLt; omega⟩
    accOf (grid0.coords t) (scaledQ m c) (blkK m c t) (blkV m c t) (ix2 (n0 := 16) (n1 := 128) (j 0) ⟨(j 1).val % 128, Nat.mod_lt _ (by decide)⟩)

/-- Agreement on what the first `n` points compute. -/
def AgreeRows (n : ℕ) (x y : S8x16x2.Idx → F .f32) : Prop := ∀ j, (j 0).val < n → x j = y j
def AgreeCols (n : ℕ) (x y : S16x1024.Idx → F .f32) : Prop := ∀ j, (j 1).val < 128 * n → x j = y j

omit [FloatOps F] in
theorem AgreeRows.all {x y : S8x16x2.Idx → F .f32} (h : AgreeRows 8 x y) : x = y := funext fun j => h j (j 0).isLt
omit [FloatOps F] in
theorem AgreeCols.all {x y : S16x1024.Idx → F .f32} (h : AgreeCols 8 x y) : x = y := funext fun j => h j (j 1).isLt
omit [FloatOps F] in
theorem AgreeRows.zero (x y : S8x16x2.Idx → F .f32) : AgreeRows 0 x y := fun _ h => absurd h (Nat.not_lt_zero _)
omit [FloatOps F] in
theorem AgreeCols.zero (x y : S16x1024.Idx → F .f32) : AgreeCols 0 x y := fun _ h => absurd h (Nat.not_lt_zero _)

theorem off3_at : ∀ t : Fin cfg0.N, k0_off3 (grid0.coords t) = ![t.val, 0, 0] := by decide
theorem off2_at : ∀ t : Fin cfg0.N, k0_off2 (grid0.coords t) = ![0, 128 * t.val] := by decide
theorem cond1_at : ∀ t : Fin cfg0.N, k0_cond1 (grid0.coords t) = 1#1 ↔ t.val = 0 := by decide
theorem cond2_at : ∀ t : Fin cfg0.N, k0_cond2 (grid0.coords t) = 1#1 ↔ t.val = 7 := by decide

omit [FloatOps F] in
/-- A row written into the eight rows of statistics. -/
theorem put_row {α : Type} (x : S8x16x2.Idx → α) (o : ℕ) (w : S1x16x2.Idx → α) (r : Fin 8) (a : Fin 16) (b : Fin 2) :
    VecWindow.put x ![o, 0, 0] S1x16x2.size w (ix3 r a b) = if r.val = o then w (ix3 0 a b) else x (ix3 r a b) := by
  unfold VecWindow.put
  have ha := a.isLt
  have hb := b.isLt
  by_cases h : r.val = o
  · have hin : ∀ d, ![o, 0, 0] d ≤ (ix3 r a b d).val ∧ (ix3 r a b d).val < ![o, 0, 0] d + S1x16x2.size d := by
      intro d
      match d with
      | 0 => exact ⟨by show o ≤ r.val; omega, by show r.val < o + 1; omega⟩
      | 1 => exact ⟨Nat.zero_le _, by show a.val < 0 + 16; omega⟩
      | 2 => exact ⟨Nat.zero_le _, by show b.val < 0 + 2; omega⟩
    rw [dif_pos hin, if_pos h]
    congr 1
    funext d
    match d with
    | 0 => exact Fin.ext (by show r.val - o = 0; omega)
    | 1 => exact Fin.ext (by show a.val - 0 = a.val; omega)
    | 2 => exact Fin.ext (by show b.val - 0 = b.val; omega)
  · rw [if_neg h, dif_neg]
    intro hall
    have h0 : o ≤ r.val ∧ r.val < o + 1 := hall 0
    omega

omit [FloatOps F] in
theorem point_of (t : Fin cfg0.N) (n : Fin 8) (h : n.val = t.val) : point n = t := Fin.ext h

omit [FloatOps F] in
theorem agreeRows_put (t : Fin cfg0.N) (x y : S8x16x2.Idx → F .f32) (w : S1x16x2.Idx → F .f32) (h : AgreeRows t.val x y)
    (hw : ∀ (r : Fin 8) (a : Fin 16) (b : Fin 2), r.val = t.val → y (ix3 r a b) = w (ix3 0 a b)) :
    AgreeRows (t.val + 1) (putTop (grid0.coords t) x w) y := by
  intro j hj
  obtain ⟨r, a, b, rfl⟩ : ∃ r a b, j = ix3 (n0 := 8) (n1 := 16) (n2 := 2) r a b := ⟨j 0, j 1, j 2, eq_ix3 j⟩
  unfold putTop
  rw [off3_at, put_row]
  have hj' : r.val < t.val + 1 := hj
  split
  · rename_i e; exact (hw r a b e).symm
  · exact h _ (by show r.val < t.val; omega)

omit [FloatOps F] in
theorem agreeCols_put (t : Fin cfg0.N) (x y : S16x1024.Idx → F .f32) (w : S16x128.Idx → F .f32) (h : AgreeCols t.val x y)
    (hw : ∀ (r : Fin 16) (b : Fin 1024), b.val / 128 = t.val → y (ix2 r b) = w (ix2 r ⟨b.val % 128, Nat.mod_lt _ (by decide)⟩)) :
    AgreeCols (t.val + 1) (putAcc (grid0.coords t) x w) y := by
  intro j hj
  obtain ⟨r, b, rfl⟩ : ∃ r b, j = ix2 (n0 := 16) (n1 := 1024) r b := ⟨j 0, j 1, eq_ix2 j⟩
  unfold putAcc
  rw [off2_at, put_tile _ _ (by omega)]
  have hj' : b.val < 128 * (t.val + 1) := hj
  split
  · rename_i e; exact (hw r b (by omega)).symm
  · exact h _ (by show b.val < 128 * t.val; omega)

omit [FloatOps F] in
/-- Rows laid out by points, read at a point's row. -/
theorem row_at {t : Fin cfg0.N} (g : Fin cfg0.N → S1x16x2.Idx → F .f32) (r : Fin 8) (a : Fin 16) (b : Fin 2) (e : r.val = t.val) :
    (fun j : S8x16x2.Idx => g (point (j 0)) (ix3 (n0 := 1) (n1 := 16) (n2 := 2) 0 (j 1) (j 2))) (ix3 r a b) = g t (ix3 0 a b) := by
  show g (point r) (ix3 0 a b) = _
  rw [point_of t r e]

attribute [local irreducible] topOf sumOf accOf

theorem top_step (c : Dev nD) (t : Fin cfg0.N) (x : S8x16x2.Idx → F .f32) (h : AgreeRows t.val x (parts m c).top) :
    AgreeRows (t.val + 1) (putTop (grid0.coords t) x (topOf (grid0.coords t) (scaledQ m c) (blkK m c t))) (parts m c).top :=
  agreeRows_put t x _ _ h fun r a b e => row_at (fun t => topOf (grid0.coords t) (scaledQ m c) (blkK m c t)) r a b e

theorem sum_step (c : Dev nD) (t : Fin cfg0.N) (x : S8x16x2.Idx → F .f32) (h : AgreeRows t.val x (parts m c).sum) :
    AgreeRows (t.val + 1) (putTop (grid0.coords t) x (sumOf (grid0.coords t) (scaledQ m c) (blkK m c t))) (parts m c).sum :=
  agreeRows_put t x _ _ h fun r a b e => row_at (fun t => sumOf (grid0.coords t) (scaledQ m c) (blkK m c t)) r a b e

theorem acc_step (c : Dev nD) (t : Fin cfg0.N) (x : S16x1024.Idx → F .f32) (h : AgreeCols t.val x (parts m c).acc) :
    AgreeCols (t.val + 1) (putAcc (grid0.coords t) x (accOf (grid0.coords t) (scaledQ m c) (blkK m c t) (blkV m c t))) (parts m c).acc :=
  agreeCols_put t x _ _ h fun r b e => by
    show accOf (grid0.coords (point ⟨b.val / 128, _⟩)) (scaledQ m c) (blkK m c (point ⟨b.val / 128, _⟩)) (blkV m c (point ⟨b.val / 128, _⟩)) (ix2 r ⟨b.val % 128, _⟩) = _
    rw [point_of t ⟨b.val / 128, by have := b.isLt; omega⟩ e]

end Cert.FlashDecode
-- ==== Proof.Region.lean ====
/-
  The kernel's region on one device: what the device holds before, between and after the eight grid points, and that the body
  at each point takes it from one to the next.
-/
module

public import proofs.«01_k».proof.Proof.Parts
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ)

/-! ## The two exchange buffers and their slots -/

omit [FloatOps F] in
theorem acc_open (c : Dev nD) (f : S2x16x1024.Idx → F .f32) :
    (((c : Thread nD τ).loc cc0_scratch4) ↦{fullShare} (f : Buf (Elt F) ((c : Thread nD τ).loc cc0_scratch4)) : sProp 𝕄)
      ⊢ iprop(accOutPts c f ∗ accInPts c f) := by
  unfold accOutPts accInPts
  refine (Entails.of_eq ?_).trans (pointsTo_union (ℓ := (c : Thread nD τ).loc cc0_scratch4) acc_disjoint).1
  rw [acc_union]

omit [FloatOps F] in
theorem acc_close (c : Dev nD) (f g : S2x16x1024.Idx → F .f32) :
    iprop(accOutPts c f ∗ accInPts c g)
      ⊢ (∃ f : Buf (Elt F) ((c : Thread nD τ).loc cc0_scratch4), ((c : Thread nD τ).loc cc0_scratch4) ↦{fullShare} f : sProp 𝕄) := by
  unfold accOutPts accInPts
  refine (pointsTo_join (ℓ := (c : Thread nD τ).loc cc0_scratch4) acc_disjoint).trans ?_
  rw [acc_union]
  iintro H; iexists _; iexact H

omit [FloatOps F] in
theorem stat_open (c : Dev nD) (f : S2x2x8x16x2.Idx → F .f32) :
    (((c : Thread nD τ).loc cc0_scratch5) ↦{fullShare} (f : Buf (Elt F) ((c : Thread nD τ).loc cc0_scratch5)) : sProp 𝕄)
      ⊢ iprop(statOutPts c f ∗ statInPts c f) := by
  unfold statOutPts statInPts
  refine (Entails.of_eq ?_).trans (pointsTo_union (ℓ := (c : Thread nD τ).loc cc0_scratch5) stat_disjoint).1
  rw [stat_union]

omit [FloatOps F] in
theorem stat_close (c : Dev nD) (f g : S2x2x8x16x2.Idx → F .f32) :
    iprop(statOutPts c f ∗ statInPts c g)
      ⊢ (∃ f : Buf (Elt F) ((c : Thread nD τ).loc cc0_scratch5), ((c : Thread nD τ).loc cc0_scratch5) ↦{fullShare} f : sProp 𝕄) := by
  unfold statOutPts statInPts
  refine (pointsTo_join (ℓ := (c : Thread nD τ).loc cc0_scratch5) stat_disjoint).trans ?_
  rw [stat_union]
  iintro H; iexists _; iexact H

/-! ## What a device holds between the points -/

/-- The scratch buffers, at contents not chosen. -/
def scratchAny (c : Dev nD) : sProp 𝕄 :=
  Pipeline.scopedRest (Ix := Unit) (Name := ℕ) (U := UU) (Lvl := ℕ) (Val := Elt F) spec0 c

/-- The protocol's state once every semaphore's record is open. -/
def opened (K : GSem nD τ sig → ℕ) (c : Dev nD) : sProp 𝕄 :=
  iprop(talkInvs (parts m) K c
    ∗ (cellInv ER (talk (parts m)) (K (barCell c)) (barCell c) ∗ cellInv ER (talk (parts m)) (K (barCell (mate c))) (barCell (mate c)))
    ∗ (reached ER (barCell (mate c)) 0 ∗ reached ER (accRecv c) 0 ∗ reached ER (statRecv c) 0)
    ∗ atPos ER (barCell c) 0 ∅ 0 ∗ dutyTok ER (barCell (mate c)) 0 () ∗ talkRights c)

/-- Before the first point. -/
def atStart (c : Dev nD) : sProp 𝕄 :=
  iprop((∃ K, opened m K c) ∗ cred (tallyAt (barCell c) () 1) ∗ levAts Lset lvl ∗ scratchAny c ∗ ∃ r, prngReg c r)

/-- After the first `n` points, short of all: the partner is ready, and the scratch holds what the points have computed. -/
def between (c : Dev nD) (n : ℕ) : sProp 𝕄 :=
  iprop((∃ K, talkInvs (parts m) K c) ∗ talkRights c ∗ barPay c ∗ semVal (barCell c) 0
    ∗ (∃ f, accOutPts c f) ∗ (∃ f, statOutPts c f)
    ∗ owns (c : Thread nD τ) (Memref.whole cc0_scratch3) fullShare (scaledQ m c)
    ∗ (∃ x, ⌜AgreeRows n x (parts m c).top⌝ ∗ owns (c : Thread nD τ) (Memref.whole cc0_scratch0) fullShare x)
    ∗ (∃ x, ⌜AgreeRows n x (parts m c).sum⌝ ∗ owns (c : Thread nD τ) (Memref.whole cc0_scratch1) fullShare x)
    ∗ (∃ x, ⌜AgreeCols n x (parts m c).acc⌝ ∗ owns (c : Thread nD τ) (Memref.whole cc0_scratch2) fullShare x)
    ∗ ∃ r, prngReg c r)

/-- After the last point. -/
def atEnd (c : Dev nD) : sProp 𝕄 :=
  iprop(scratchAny c ∗ (semVal (accSend c) 0 ∗ semVal (statSend c) 0 ∗ semVal (accRecv c) 0 ∗ semVal (statRecv c) 0) ∗ semVal (barCell c) 0 ∗ ∃ r, prngReg c r)

/-- The region's proof data: its inputs stay, and its result is the merge of the two devices' partial results. -/
def dat (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun _ => outOf (parts m c) (parts m (mate c))
  Φ t := if t.val = 0 then atStart m c else if t.val = 8 then atEnd c else between m c t.val
  q _ := fullShare
  owed t := if t.val = 0 then owesAll c else if t.val = 8 then 0 else owesRecv c

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem before_0 (c : Dev nD) (t : Fin cfg0.N) (d) : (dat m c).before 0 t d = iblk m c 0 t :=
  ((dat m c).before_in_eq_fetched 0 rfl (fun _ => rfl) (fun _ _ _ => rfl) (fun t => rfl) t d).trans rfl
theorem before_1 (c : Dev nD) (t : Fin cfg0.N) (d) : (dat m c).before 1 t d = iblk m c 1 t :=
  ((dat m c).before_in_eq_fetched 1 rfl (fun _ => rfl) (fun _ _ _ => rfl) (fun t => rfl) t d).trans rfl
theorem before_2 (c : Dev nD) (t : Fin cfg0.N) (d) : (dat m c).before 2 t d = iblk m c 2 t :=
  ((dat m c).before_in_eq_fetched 2 rfl (fun _ => rfl) (fun _ _ _ => rfl) (fun t => rfl) t d).trans rfl

theorem Φ_start (c : Dev nD) (t : Fin (cfg0.N + 1)) (h : t.val = 0) : (dat m c).Φ t = atStart m c := if_pos h
theorem Φ_end (c : Dev nD) (t : Fin (cfg0.N + 1)) (h : t.val = 8) : (dat m c).Φ t = atEnd c :=
  (if_neg (by rw [h]; decide)).trans (if_pos h)
theorem Φ_between (c : Dev nD) (t : Fin (cfg0.N + 1)) (h : t.val ≠ 0) (h8 : t.val ≠ 8) : (dat m c).Φ t = between m c t.val :=
  (if_neg h).trans (if_neg h8)
theorem owed_start (c : Dev nD) (t : Fin (cfg0.N + 1)) (h : t.val = 0) : (dat m c).owed t = owesAll c := if_pos h
theorem owed_end (c : Dev nD) (t : Fin (cfg0.N + 1)) (h : t.val = 8) : (dat m c).owed t = 0 :=
  (if_neg (by rw [h]; decide)).trans (if_pos h)
theorem owed_between (c : Dev nD) (t : Fin (cfg0.N + 1)) (h : t.val ≠ 0) (h8 : t.val ≠ 8) : (dat m c).owed t = owesRecv c :=
  (if_neg h).trans (if_neg h8)

theorem idle_out (t : Fin cfg0.N) (h : t.val ≠ 7) : idle0 3 (grid0.coords t) = true := by
  revert t; decide
theorem busy_out (t : Fin cfg0.N) (h : t.val = 7) : idle0 3 (grid0.coords t) = false := by
  revert t; decide
theorem noflush_out (t : Fin cfg0.N) (h : t.val ≠ 7) : (win0 3).flush t = false := by
  revert t; decide

/-- A point between the first and the last. -/
theorem run_mid (c : Dev nD) (t : Fin cfg0.N) (h0 : t.val ≠ 0) (h7 : t.val ≠ 7) (Q : PUnit → sProp 𝕄) :
    iprop(between m c t.val ∗ owns (c : Thread nD τ) (win0_1.stage (cfg0.slots t 1)) fullShare (blkK m c t)
      ∗ owns (c : Thread nD τ) (win0_2.stage (cfg0.slots t 2)) fullShare (blkV m c t)
      ∗ ((between m c (t.val + 1) ∗ owns (c : Thread nD τ) (win0_1.stage (cfg0.slots t 1)) fullShare (blkK m c t)
        ∗ owns (c : Thread nD τ) (win0_2.stage (cfg0.slots t 2)) fullShare (blkV m c t)) -∗ Q ⟨⟩))
    ⊢ wp frame (wpE (defs₀ (F := F)) 𝒱₀ (c : Thread nD τ) none) Set.univ (bodyAt0 t) Q := by
  unfold between
  iintro ⟨⟨HI, Hr, Hp, Hb, Ha, Hs, Hq, ⟨%x, %hx, Hx⟩, ⟨%y, %hy, Hy⟩, ⟨%z, %hz, Hz⟩, Hg⟩, Hk, Hv, HQ⟩
  iapply (body_mid c (grid0.coords t) (fun h => h0 ((cond1_at t).mp h)) (fun h => h7 ((cond2_at t).mp h)) _ _ _ _ _ _ _ _ _ _ _ _ _ _ _ _ _ _ _ _
    (blkK m c t) (blkV m c t) x y z (scaledQ m c) Q)
  isplitl [Hk]; · iexact Hk
  isplitl [Hv]; · iexact Hv
  isplitl [Hx]; · iexact Hx
  isplitl [Hy]; · iexact Hy
  isplitl [Hz]; · iexact Hz
  isplitl [Hq]; · iexact Hq
  iintro ⟨Hk, Hv, Hx, Hy, Hz, Hq⟩
  iapply HQ
  isplitr [Hk Hv]
  · isplitl [HI]; · iexact HI
    isplitl [Hr]; · iexact Hr
    isplitl [Hp]; · iexact Hp
    isplitl [Hb]; · iexact Hb
    isplitl [Ha]; · iexact Ha
    isplitl [Hs]; · iexact Hs
    isplitl [Hq]; · iexact Hq
    isplitl [Hx]; · iexists _; isplitr; swap; · iexact Hx
                    ipureintro; exact top_step m c t x hx
    isplitl [Hy]; · iexists _; isplitr; swap; · iexact Hy
                    ipureintro; exact sum_step m c t y hy
    isplitl [Hz]; · iexists _; isplitr; swap; · iexact Hz
                    ipureintro; exact acc_step m c t z hz
    iexact Hg
  isplitl [Hk] <;> iassumption

/-- The first point. -/
theorem run_first (c : Dev nD) (t : Fin cfg0.N) (h0 : t.val = 0) (W : Waits sig Unit) (Q : PUnit → sProp 𝕄) :
    iprop(atStart m c ∗ owes (c : Thread nD τ) (owesAll c) W
      ∗ owns (c : Thread nD τ) (win0_0.stage (cfg0.slots t 0)) fullShare (iblk m c 0 t)
      ∗ owns (c : Thread nD τ) (win0_1.stage (cfg0.slots t 1)) fullShare (blkK m c t)
      ∗ owns (c : Thread nD τ) (win0_2.stage (cfg0.slots t 2)) fullShare (blkV m c t)
      ∗ ((between m c (t.val + 1) ∗ (∃ W, owes (c : Thread nD τ) (owesRecv c) W)
        ∗ owns (c : Thread nD τ) (win0_0.stage (cfg0.slots t 0)) fullShare (iblk m c 0 t)
        ∗ owns (c : Thread nD τ) (win0_1.stage (cfg0.slots t 1)) fullShare (blkK m c t)
        ∗ owns (c : Thread nD τ) (win0_2.stage (cfg0.slots t 2)) fullShare (blkV m c t)) -∗ Q ⟨⟩))
    ⊢ wp frame (wpE (defs₀ (F := F)) 𝒱₀ (c : Thread nD τ) none) Set.univ (bodyAt0 t) Q := by
  have hq : k0_pay39 (iblk m c 0 t) = scaledQ m c := by
    unfold scaledQ blkQ; rw [point_of t 0 h0.symm]
  unfold atStart opened scratchAny
  rw [scopedRest0_eq]
  iintro ⟨⟨⟨%K, #HT, ⟨#HI, #HIp⟩, ⟨#HrP, #HrA, #HrS⟩, Hat, Htok, Hr⟩, Hcr, #Hlev, ⟨⟨%x, Hx⟩, ⟨%y, Hy⟩, ⟨%z, Hz⟩, ⟨%w, Hw⟩, ⟨%f, Hf⟩, ⟨%g, Hg⟩⟩, Hp⟩, HO, Hx1, Hk, Hv, HQ⟩
  ihave Hf' := (acc_open c f) $$ Hf
  ihave Hg' := (stat_open c g) $$ Hg
  icases Hf' with ⟨Hfo, Hfi⟩
  icases Hg' with ⟨Hgo, Hgi⟩
  iapply (body_first (parts m) K W c (grid0.coords t) ((cond1_at t).mpr h0) (fun h => absurd ((cond2_at t).mp h) (by omega)) _ _ _ _ _ _ _ _ _ _ _ _ _ _ _ _ _ _ _ _
    (blkK m c t) (blkV m c t) x y z w (iblk m c 0 t) Q)
  isplitl [Hk]; · iexact Hk
  isplitl [Hv]; · iexact Hv
  isplitl [Hx]; · rw [owns_whole]; iexact Hx
  isplitl [Hy]; · rw [owns_whole]; iexact Hy
  isplitl [Hz]; · rw [owns_whole]; iexact Hz
  isplitl [Hw]; · rw [owns_whole]; iexact Hw
  isplitl [Hx1]; · iexact Hx1
  isplitl [Hat Hcr Htok Hfi Hgi HO]
  · unfold barStart
    isplitr; · iexact HI
    isplitr; · iexact HIp
    isplitr; · iexact Hlev
    isplitr; · iexact HrP
    isplitr; · iexact HrA
    isplitr; · iexact HrS
    isplitl [Hat]; · iexact Hat
    isplitl [Hcr]; · iexact Hcr
    isplitl [Htok]; · iexact Htok
    isplitl [Hfi]; · iexists f; iexact Hfi
    isplitl [Hgi]; · iexists g; iexact Hgi
    iexact HO
  unfold barDone
  rw [hq]
  iintro ⟨Hk, Hv, Hx, Hy, Hz, Hq, Hx1, Hpay, Hsem, HO⟩
  iapply HQ
  isplitr [Hk Hv Hx1 HO]
  · unfold between
    isplitr; · iexists K; iexact HT
    isplitl [Hr]; · iexact Hr
    isplitl [Hpay]; · iexact Hpay
    isplitl [Hsem]; · iexact Hsem
    isplitl [Hfo]; · iexists f; iexact Hfo
    isplitl [Hgo]; · iexists g; iexact Hgo
    isplitl [Hq]; · iexact Hq
    isplitl [Hx]; · iexists _; isplitr; swap; · iexact Hx
                    ipureintro; exact top_step m c t x (by rw [h0]; exact AgreeRows.zero _ _)
    isplitl [Hy]; · iexists _; isplitr; swap; · iexact Hy
                    ipureintro; exact sum_step m c t y (by rw [h0]; exact AgreeRows.zero _ _)
    isplitl [Hz]; · iexists _; isplitr; swap; · iexact Hz
                    ipureintro; exact acc_step m c t z (by rw [h0]; exact AgreeCols.zero _ _)
    iexact Hp
  isplitl [HO]; · iexact HO
  isplitl [Hx1]; · iexact Hx1
  isplitl [Hk] <;> iassumption

/-- The last point. -/
theorem run_last (c : Dev nD) (t : Fin cfg0.N) (h7 : t.val = 7) (W : Waits sig Unit) (o : S16x1024.Idx → F .f32) (Q : PUnit → sProp 𝕄) :
    iprop(between m c t.val ∗ owes (c : Thread nD τ) (owesRecv c) W
      ∗ owns (c : Thread nD τ) (win0_1.stage (cfg0.slots t 1)) fullShare (blkK m c t)
      ∗ owns (c : Thread nD τ) (win0_2.stage (cfg0.slots t 2)) fullShare (blkV m c t)
      ∗ owns (c : Thread nD τ) (win0_3.stage (cfg0.slots t 3)) fullShare o
      ∗ ((atEnd c ∗ (∃ W, owes (c : Thread nD τ) 0 W)
        ∗ owns (c : Thread nD τ) (win0_1.stage (cfg0.slots t 1)) fullShare (blkK m c t)
        ∗ owns (c : Thread nD τ) (win0_2.stage (cfg0.slots t 2)) fullShare (blkV m c t)
        ∗ owns (c : Thread nD τ) (win0_3.stage (cfg0.slots t 3)) fullShare (outOf (parts m c) (parts m (mate c)))) -∗ Q ⟨⟩))
    ⊢ wp frame (wpE (defs₀ (F := F)) 𝒱₀ (c : Thread nD τ) none) Set.univ (bodyAt0 t) Q := by
  unfold between
  iintro ⟨⟨⟨%K, #HI⟩, Hr, Hp, Hb, Ha, Hs, Hq, ⟨%x, %hx, Hx⟩, ⟨%y, %hy, Hy⟩, ⟨%z, %hz, Hz⟩, Hg⟩, HO, Hk, Hv, Ho, HQ⟩
  have hX : parts m c = ⟨putTop (grid0.coords t) x (topOf (grid0.coords t) (scaledQ m c) (blkK m c t)),
      putTop (grid0.coords t) y (sumOf (grid0.coords t) (scaledQ m c) (blkK m c t)),
      putAcc (grid0.coords t) z (accOf (grid0.coords t) (scaledQ m c) (blkK m c t) (blkV m c t))⟩ := by
    have h8 : t.val + 1 = 8 := by omega
    have e1 := top_step m c t x hx
    have e2 := sum_step m c t y hy
    have e3 := acc_step m c t z hz
    rw [h8] at e1 e2 e3
    rw [e1.all, e2.all, e3.all]
  iapply (body_last (parts m) K W c (grid0.coords t) (fun h => absurd ((cond1_at t).mp h) (by omega)) ((cond2_at t).mpr h7) _ _ _ _ _ _ _ _ _ _ _ _ _ _ _ _ _ _
    (blkK m c t) (blkV m c t) x y z (scaledQ m c) o hX Q)
  isplitl [Hk]; · iexact Hk
  isplitl [Hv]; · iexact Hv
  isplitl [Hx]; · iexact Hx
  isplitl [Hy]; · iexact Hy
  isplitl [Hz]; · iexact Hz
  isplitl [Hq]; · iexact Hq
  isplitl [Ho]; · iexact Ho
  isplitl [Hr Hp Ha Hs HO]
  · unfold talkStart
    isplitr; · iexact HI
    isplitl [Hr]; · iexact Hr
    isplitl [Hp]; · iexact Hp
    isplitl [Ha]; · iexact Ha
    isplitl [Hs]; · iexact Hs
    iexact HO
  unfold talkDone atEnd scratchAny
  rw [scopedRest0_eq]
  iintro ⟨Hk, Hv, Hx, Hy, Hz, Hq, Ho, Hao, Hso, Hai, Hsi, H1, H2, H3, H4, HO⟩
  iapply HQ
  isplitr [Hk Hv Ho HO]
  · isplitl [Hx Hy Hz Hq Hao Hso Hai Hsi]
    · isplitl [Hx]; · iexists _; iapply (Entails.of_eq (owns_whole (c : Thread nD τ) cc0_scratch0 fullShare _)); iexact Hx
      isplitl [Hy]; · iexists _; iapply (Entails.of_eq (owns_whole (c : Thread nD τ) cc0_scratch1 fullShare _)); iexact Hy
      isplitl [Hz]; · iexists _; iapply (Entails.of_eq (owns_whole (c : Thread nD τ) cc0_scratch2 fullShare _)); iexact Hz
      isplitl [Hq]; · iexists _; iapply (Entails.of_eq (owns_whole (c : Thread nD τ) cc0_scratch3 fullShare _)); iexact Hq
      isplitl [Hao Hai]
      · iapply acc_close; isplitl [Hao] <;> iassumption
      iapply stat_close; isplitl [Hso] <;> iassumption
    isplitl [H1 H2 H3 H4]
    · isplitl [H1]; · iexact H1
      isplitl [H2]; · iexact H2
      isplitl [H3] <;> iassumption
    isplitl [Hb] <;> iassumption
  isplitl [HO]; · iexact HO
  isplitl [Hk]; · iexact Hk
  isplitl [Hv] <;> iassumption

theorem body (c : Dev nD) : BodyObligation (dat m c) defs₀ 𝒱₀ () Set.univ := fun t => by
  rw [bigSep_W0, bigSep_W0]
  have hN : t.val < 8 := lt_of_lt_of_eq t.isLt N_0
  show _ ⊢ wp frame (wpE (defs₀ (F := F)) 𝒱₀ (c : Thread nD τ) none) Set.univ (bodyAt0 t) _
  dsimp only
  simp only [before_0, before_1, before_2]
  have hs : (t.succ : Fin (cfg0.N + 1)).val = t.val + 1 := rfl
  have hc : (t.castSucc : Fin (cfg0.N + 1)).val = t.val := rfl
  by_cases h7 : t.val = 7
  · rw [busy_out t h7]
    rw [Φ_between m c t.castSucc (by omega) (by omega), Φ_end m c t.succ (by omega), hc]
    iintro ⟨HΦ, HO, ⟨%d0, H0⟩, ⟨%d1, H1⟩, ⟨%d2, H2⟩, ⟨%d3, H3⟩⟩
    ihave HO' := (owesAt_elim m c _ (owesRecv c) (owed_between m c t.castSucc (by omega) (by omega))) $$ HO
    icases HO' with ⟨%W, HO⟩
    iapply (run_last m c t h7 W _ _)
    isplitl [HΦ]; · iexact HΦ
    isplitl [HO]; · iexact HO
    isplitl [H1]; · iexact H1
    isplitl [H2]; · iexact H2
    isplitl [H3]; · iexact H3
    iintro ⟨HΦ, ⟨%W', HO⟩, H1, H2, H3⟩
    isplitl [HΦ]; · iexact HΦ
    isplitl [HO]; · iapply (owesAt_intro m c t.succ 0 (owed_end m c t.succ (by omega)) W'); iexact HO
    isplitl [H0]; · iexact H0
    isplitl [H1]; · iexact H1
    isplitl [H2]; · iexact H2
    iexact H3
  rw [idle_out t h7, noflush_out t h7]
  by_cases h0 : t.val = 0
  · rw [Φ_start m c t.castSucc h0, Φ_between m c t.succ (by omega) (by omega), hs]
    iintro ⟨HΦ, HO, ⟨%d0, H0⟩, ⟨%d1, H1⟩, ⟨%d2, H2⟩, H3⟩
    ihave HO' := (owesAt_elim m c _ (owesAll c) (owed_start m c t.castSucc h0)) $$ HO
    icases HO' with ⟨%W, HO⟩
    iapply (run_first m c t h0 W _)
    isplitl [HΦ]; · iexact HΦ
    isplitl [HO]; · iexact HO
    isplitl [H0]; · iexact H0
    isplitl [H1]; · iexact H1
    isplitl [H2]; · iexact H2
    iintro ⟨HΦ, ⟨%W', HO⟩, H0, H1, H2⟩
    isplitl [HΦ]; · iexact HΦ
    isplitl [HO]; · iapply (owesAt_intro m c t.succ (owesRecv c) (owed_between m c t.succ (by omega) (by omega)) W'); iexact HO
    isplitl [H0]; · iexact H0
    isplitl [H1]; · iexact H1
    isplitl [H2]; · iexact H2
    iexact H3
  rw [Φ_between m c t.castSucc (by omega) (by omega), Φ_between m c t.succ (by omega) (by omega), hs, hc]
  iintro ⟨HΦ, HO, ⟨%d0, H0⟩, ⟨%d1, H1⟩, ⟨%d2, H2⟩, H3⟩
  iapply (run_mid m c t h0 h7 _)
  isplitl [HΦ]; · iexact HΦ
  isplitl [H1]; · iexact H1
  isplitl [H2]; · iexact H2
  iintro ⟨HΦ, H1, H2⟩
  isplitl [HΦ]; · iexact HΦ
  isplitl [HO]
  · ihave HO' := (owesAt_elim m c _ (owesRecv c) (owed_between m c t.castSucc (by omega) (by omega))) $$ HO
    icases HO' with ⟨%W, HO⟩
    iapply (owesAt_intro m c t.succ (owesRecv c) (owed_between m c t.succ (by omega) (by omega)) W); iexact HO
  isplitl [H0]; · iexact H0
  isplitl [H1]; · iexact H1
  isplitl [H2]; · iexact H2
  iexact H3

end Cert.FlashDecode
-- ==== Proof.Segment.lean ====
/-
  The kernel's region as one segment of the program: the buffers' contents around it, how the protocol's records enter it, and
  what it leaves.
-/
module

public import proofs.«01_k».proof.Proof.Region
public import Idealize.ShloMosaic.Lib.Pipeline.RegionTalk
public import Idealize.ShloMosaic.Lib.Pipeline.FrameSuffix
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ)

/-! ## The contents of the buffers around the region -/

/-- What a device's buffers hold after the region: each window's array as the region leaves it, the others as they were. -/
def V1 (c : Dev nD) : Valuation τ sig (Elt F) :=
  Pipeline.withArrays spec0 c (V0 m c) (fun w => (dat m c).arrAt w cfg0.N)
/-- and at the end. -/
def V2 (c : Dev nD) : Valuation τ sig (Elt F) := StableHlo.after hostOps1 (V1 m c)

abbrev arrB : Finset (DevRef τ sig) := Pipeline.arrRefs (τ := τ) spec0
abbrev restB : Finset (DevRef τ sig) := Pipeline.ucRefs τ sig \ arrB

theorem arrB_sub : arrB ⊆ Pipeline.ucRefs τ sig := Pipeline.arrRefs_sub_ucRefs spec0 winFacts0.arr_unscoped

theorem V1_arr (c : Dev nD) (w : Fin cfg0.W) : V1 m c (Proc.devRef .tc (Pipeline.arrRef spec0 w)) = (dat m c).arrAt w cfg0.N :=
  Pipeline.withArrays_arr spec0 winFacts0.arr_inj c _ _ w

theorem V1_rest (c : Dev nD) (b : DevRef τ sig) (h : b ∉ arrB) : V1 m c b = V0 m c b := by
  unfold V1 Pipeline.withArrays
  rw [dif_neg]
  rintro ⟨w, rfl⟩
  exact h (Finset.mem_map.mpr ⟨_, Finset.mem_image.mpr ⟨w, Finset.mem_univ _, rfl⟩, rfl⟩)

/-! ## The region as a segment -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- The protocol's state as dealt at launch: the scoped semaphores' records not yet open. -/
def ghost (K : GSem nD τ sig → ℕ) (c : Dev nD) : sProp 𝕄 :=
  iprop(talkInvs (parts m) K c
    ∗ (cellInv ER (talk (parts m)) (K (barCell c)) (barCell c) ∗ cellInv ER (talk (parts m)) (K (barCell (mate c))) (barCell (mate c)))
    ∗ reached ER (barCell (mate c)) 0
    ∗ (openTok ER (accSend c) ∗ openTok ER (statSend c) ∗ openTok ER (accRecv c) ∗ openTok ER (statRecv c))
    ∗ atPos ER (barCell c) 0 ∅ 0
    ∗ (dutyTok ER (barCell (mate c)) 0 () ∗ dutyTok ER (accSend c) 0 () ∗ dutyTok ER (statSend c) 0 ()
      ∗ dutyTok ER (accRecv (mate c)) 0 () ∗ dutyTok ER (statRecv (mate c)) 0 ()))

def credits (c : Dev nD) : sProp 𝕄 :=
  iprop(cred (tallyAt (barCell c) () 1) ∗ cred (tallyAt (accRecv c) () accN) ∗ cred (tallyAt (statRecv c) () statN))

def Tk (c : Dev nD) : sProp 𝕄 := iprop((∃ K, ghost m K c) ∗ credits c)
def Xk (c : Dev nD) : sProp 𝕄 := iprop((∃ K, opened m K c) ∗ cred (tallyAt (barCell c) () 1) ∗ levAts Lset lvl)
def Yk (c : Dev nD) : sProp 𝕄 := semVal (barCell c) 0

theorem ownSems_eq (c : Dev nD) : (Pipeline.ownSems0 osem c : sProp 𝕄)
    = iprop(semVal (accSend c) 0 ∗ semVal (statSend c) 0 ∗ semVal (accRecv c) 0 ∗ semVal (statRecv c) 0) := by
  unfold Pipeline.ownSems0
  rw [bigSep_univ_eq_bigSepL [0, 1, 2, 3] (by decide) (by decide)]
  rfl

theorem hopen (c : Dev nD) : iprop(Tk m c ∗ Pipeline.ownSems0 osem c ∗ levAts Lset lvl) ⊢ (|={Set.univ}=> Xk m c : sProp 𝕄) := by
  rw [ownSems_eq]
  unfold Tk Xk credits
  iintro ⟨⟨⟨%K, Hg⟩, HcB, HcA, HcS⟩, ⟨H0, H1, H2, H3⟩, #Hlev⟩
  unfold ghost talkInvs
  icases Hg with ⟨⟨#HI0, #HI1, #HI2, #HI3, #HI4, #HI5⟩, ⟨#HIb, #HIbp⟩, #Hrb, ⟨Ho0, Ho1, Ho2, Ho3⟩, Hat, ⟨Htb, Ht0, Ht1, Ht2, Ht3⟩⟩
  imod (Rounds.cell_open ER (talk (parts m)) (g := accSend c) (Set.mem_univ (K (accSend c)))) $$ [Ho0 H0] with ⟨Hp0, #Hr0⟩
  · isplitr; · iexact HI0
    isplitl [Ho0] <;> iassumption
  imod (Rounds.cell_open ER (talk (parts m)) (g := statSend c) (Set.mem_univ (K (statSend c)))) $$ [Ho1 H1] with ⟨Hp1, #Hr1⟩
  · isplitr; · iexact HI1
    isplitl [Ho1] <;> iassumption
  imod (Rounds.cell_open ER (talk (parts m)) (g := accRecv c) (Set.mem_univ (K (accRecv c)))) $$ [Ho2 H2] with ⟨Hp2, #Hr2⟩
  · isplitr; · iexact HI2
    isplitl [Ho2] <;> iassumption
  imod (Rounds.cell_open ER (talk (parts m)) (g := statRecv c) (Set.mem_univ (K (statRecv c)))) $$ [Ho3 H3] with ⟨Hp3, #Hr3⟩
  · isplitr; · iexact HI3
    isplitl [Ho3] <;> iassumption
  imodintro
  isplitr [HcB]
  · iexists K; unfold opened talkInvs talkRights
    isplitr
    · isplitr; · iexact HI0
      isplitr; · iexact HI1
      isplitr; · iexact HI2
      isplitr; · iexact HI3
      isplitr; · iexact HI4
      iexact HI5
    isplitr
    · isplitr; · iexact HIb
      iexact HIbp
    isplitr
    · isplitr; · iexact Hrb
      isplitr; · iexact Hr2
      iexact Hr3
    isplitl [Hat]; · iexact Hat
    isplitl [Htb]; · iexact Htb
    isplitr; · iexact Hr0
    isplitr; · iexact Hr1
    isplitl [Ht0]; · iexact Ht0
    isplitl [Ht1]; · iexact Ht1
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [HcA] <;> iassumption
  isplitl [HcB]; · iexact HcB
  iexact Hlev

omit [FloatOps F] in
theorem held_empty (c : Dev nD) (W : Valuation τ sig (Elt F)) : (StableHlo.held (c : Thread nD τ) ∅ W : sProp 𝕄) = BI.emp := by
  unfold StableHlo.held; exact BI.bigSep_empty

theorem hin (c : Dev nD) :
    iprop(Pipeline.scopedRest (Pipeline.pin (pcfgs (F := F)) adm 0).spec c ∗ (∃ r, prngReg c r) ∗ StableHlo.held (c : Thread nD τ) ∅ (V0 m c) ∗ Xk m c)
      ⊢ (pdats m 0 c).Φ 0 := by
  rw [show (pdats m 0 c).Φ 0 = atStart m c from Φ_start m c 0 rfl, held_empty]
  unfold atStart Xk scratchAny
  iintro ⟨Hs, Hp, -, HK, HcB, #Hlev⟩
  isplitl [HK]; · iexact HK
  isplitl [HcB]; · iexact HcB
  isplitr; · iexact Hlev
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c : Thread nD τ) ∅ (V1 m c)
      ∗ Pipeline.ownSems0 osem c ∗ Yk c) := by
  rw [show (pdats m 0 c).Φ (Fin.last _) = atEnd c from Φ_end m c (Fin.last _) N_0, held_empty, ownSems_eq]
  unfold atEnd Yk scratchAny
  iintro ⟨Hs, Hss, Hb, Hp⟩
  isplitl [Hs]; · iexact Hs
  isplitl [Hp]; · iexact Hp
  isplitr; · iempintro
  isplitl [Hss]; · iexact Hss
  iexact Hb

theorem owed_first (c : Dev nD) : (pdats (F := F) m 0 c).owed 0 = owesAll c := owed_start m c 0 rfl
theorem owed_last (c : Dev nD) : (pdats (F := F) m 0 c).owed (Fin.last _) = 0 := owed_end m c (Fin.last _) N_0

theorem owed_cut (c : Dev nD) (t : Fin ((Pipeline.pin (pcfgs (F := F)) adm 0).N + 1)) (g : GSem nD τ sig) (i : Unit)
    (h : 0 < (pdats (F := F) m 0 c).owed t g i) : i ∈ Lset g ∧ (0 : ℕ) < lvl g i := by
  have e : (pdats (F := F) m 0 c).owed t = if t.val = 0 then owesAll c else if t.val = 8 then 0 else owesRecv c := rfl
  refine owed_lvl (c := c) ?_ h
  rw [e]
  split
  · exact .inl rfl
  split
  · exact .inr (.inr rfl)
  · exact .inr (.inl rfl)

theorem stage_ne : ∀ (w : Fin 4) (s : Fin (spec0 w).nbuf), (spec0 w).sem s ≠ accRecvS ∧ (spec0 w).sem s ≠ statRecvS := by decide

theorem stage_lvl (c : Dev nD) (w : Fin 4) (s : Fin (spec0 w).nbuf) : lvl ((c : Thread nD τ), .dma ((spec0 w).sem s)) () ≤ 0 := by
  obtain ⟨h1, h2⟩ := stage_ne w s
  unfold lvl
  rw [if_neg (by exact fun h => by cases h), if_neg]
  rintro (h | h)
  · exact h1 (by injection h)
  · exact h2 (by injection h)

local notation "ℍ" => Pipeline.HostSeg (Name := ℕ) (U := UU) (pcfgs (F := F)) defs₀ 𝒱₀ Lset lvl
local notation "ℝ𝕊" => Pipeline.RegionSeg (pcfgs (F := F)) adm (pdats m) () defs₀ 𝒱₀ Lset lvl

set_option backward.isDefEq.respectTransparency.types false in
/-- The kernel's region. -/
def reg : ℝ𝕊 0 :=
  Pipeline.RegionSeg.ofTalk (pcfgs (F := F)) adm (pdats m) () defs₀ 𝒱₀ Lset lvl 0 osem (by decide : Pipeline.OwnSemFacts spec0 osem)
    ∅ restB (Finset.empty_subset _) launch0.toP rfl (fun c => (body m c).loose)
    (fun _ => 0) owesAll (fun c => (owed_first m c).trans (zero_add _).symm) (owed_last m) (fun _ => rfl) (fun c w => ite_self _)
    (V0 m) (V1 m) (fun c b hb => V1_rest m c b (Finset.mem_sdiff.mp (Finset.mem_sdiff.mp hb).1).2)
    (Tk m) Yk (Xk m) Yk (hopen m) (hin m) (hout m)
    (fun c => by iintro H; imodintro; iexact H)
    (fun _ => 0)
    ⟨fun c w s => mem_Lset c _, fun c w s => stage_lvl c w s, fun c t g i h => owed_cut m c t g i h⟩
    (fun _ => iprop(emp))
    (fun _ _ => rfl) (fun c w => (V1_arr m c w).symm)

end Cert.FlashDecode
-- ==== Proof.Launch.lean ====
/-
  The launch and the run: how the protocol's records are made and dealt to the devices, and that from any memory every execution
  ends with the contents the segments leave.
-/
module

public import proofs.«01_k».proof.Proof.Segment
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ) (ρ : Dev nD → PrngReg)

local notation "ℍ" => Pipeline.HostSeg (Name := ℕ) (U := UU) (pcfgs (F := F)) defs₀ 𝒱₀ Lset lvl

/-! ## The three segments -/

/-- What rides beside the buffers up to the region, and after it. -/
def before (c : Dev nD) : sProp 𝕄 := iprop((Tk m c ∗ ∃ r, prngReg c r) ∗ ∃ W, owes (c : Thread nD τ) (owesAll c) W)
def afterwards (c : Dev nD) : sProp 𝕄 := iprop(semVal (barCell c) 0 ∗ ∃ W, owes (c : Thread nD τ) (0 : CellTallies nD τ sig Unit) W)

def host0 : ℍ := Pipeline.HostSeg.ofOps _ _ _ _ _ (Pipeline.ucRefs τ sig) hostOps0
  (fun op h => Pipeline.sub_ucRefs op ((List.forall_iff_forall_mem.mp hostOps0_sub) op h))
  (fun op h => (List.forall_iff_forall_mem.mp hostOps0_fresh) op h) (fun c b => m (c, b)) (before m)
def host1 : ℍ := Pipeline.HostSeg.ofOps _ _ _ _ _ (Pipeline.ucRefs τ sig) hostOps1
  (fun op h => Pipeline.sub_ucRefs op ((List.forall_iff_forall_mem.mp hostOps1_sub) op h))
  (fun op h => (List.forall_iff_forall_mem.mp hostOps1_fresh) op h) (V1 m) afterwards

def segs : List (Pipeline.Seg (pcfgs (F := F)) adm (pdats m) () defs₀ 𝒱₀ Lset lvl) := [.host (host0 m), .region (reg m), .host (host1 m)]

theorem main_eq (c : Dev nD) : main (F := F) c = Pipeline.Seg.run (segs m) :=
  main_segs adm (pdats m) () 𝒱₀ Lset lvl (host0 m) (host1 m) (reg m) rfl rfl c

theorem reg_pre (c : Dev nD) : iprop(StableHlo.held (c : Thread nD τ) (Pipeline.ucRefs τ sig) (V0 m c) ∗ before m c) ⊢ (reg m).pre c := by
  show _ ⊢ iprop(StableHlo.held (c : Thread nD τ) arrB (V0 m c) ∗ (∃ r, prngReg c r)
    ∗ (StableHlo.held (c : Thread nD τ) restB (V0 m c) ∗ emp) ∗ Tk m c ∗ ∃ Wd, owes (c : Thread nD τ) (0 + owesAll c) Wd)
  rw [zero_add, StableHlo.held_sub_split (c : Thread nD τ) arrB_sub (V0 m c)]
  unfold before
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V1 m c) ∗ afterwards c) := by
  show iprop(StableHlo.held (c : Thread nD τ) arrB (V1 m c) ∗ (∃ r, prngReg c r)
    ∗ (StableHlo.held (c : Thread nD τ) restB (V1 m c) ∗ emp) ∗ Yk c ∗ ∃ Wd, owes (c : Thread nD τ) (0 : CellTallies nD τ sig Unit) Wd) ⊢ _
  rw [StableHlo.held_sub_split (c : Thread nD τ) arrB_sub (V1 m c)]
  unfold afterwards Yk
  iintro ⟨Ha, -, ⟨Hr, -⟩, Hb, HO⟩
  isplitl [Ha Hr]; · isplitl [Ha] <;> iassumption
  isplitl [Hb] <;> iassumption

/-! ## The launch -/

def barEmb : Dev nD ↪ GSem nD τ sig := ⟨barCell, fun _ _ h => congrArg (fun g : GSem nD τ sig => g.1.1) h⟩
theorem osem_inj : Function.Injective osem := by decide
def scEmb : Dev nD × Fin 4 ↪ GSem nD τ sig :=
  ⟨scCell, fun _ _ h => Prod.ext (congrArg (fun g : GSem nD τ sig => g.1.1) h) (osem_inj (congrArg Prod.snd h))⟩

/-- The barrier semaphores, whose counters the launch hands over, and the scoped ones, whose counters the region does. -/
abbrev barCells : Finset (GSem nD τ sig) := Finset.univ.map barEmb
abbrev scCells : Finset (GSem nD τ sig) := Finset.univ.map scEmb
theorem osem_ne_bar : ∀ k : Fin 4, osem k ≠ .reg barS := by decide
theorem cells_disjoint : Disjoint (barCells : Finset (GSem nD τ sig)) scCells := by
  refine Finset.disjoint_left.mpr fun g h₁ h₂ => ?_
  obtain ⟨c, -, rfl⟩ := Finset.mem_map.mp h₁
  obtain ⟨ck, -, h⟩ := Finset.mem_map.mp h₂
  exact osem_ne_bar ck.2 (congrArg Prod.snd h)

/-- One duty per semaphore. -/
abbrev dutySem : Fin 5 → SemLoc sig := fun
  | 0 => .reg barS | 1 => .dma accSendS | 2 => .dma statSendS | 3 => .dma accRecvS | 4 => .dma statRecvS
theorem dutySem_inj : Function.Injective dutySem := by decide
def talkToks : Finset (GSem nD τ sig × ℕ × Unit) :=
  Finset.univ.map ⟨fun ck : Dev nD × Fin 5 => (((ck.1 : Thread nD τ), dutySem ck.2), 0, ()), fun _ _ h =>
    Prod.ext (congrArg (fun t : GSem nD τ sig × ℕ × Unit => t.1.1.1) h) (dutySem_inj (congrArg (fun t : GSem nD τ sig × ℕ × Unit => t.1.2) h))⟩

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 4) : scCell (c, k) ∈ (barCells ∪ scCells : Finset (GSem nD τ sig)) :=
  Finset.mem_union_right _ (Finset.mem_map_of_mem scEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells scCells talkToks)

/-- A resource parked on device 0. -/
def parked (X : sProp 𝕄) (c : Dev nD) : sProp 𝕄 := if c = 0 then X else iprop(emp)
omit [FloatOps F] in
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

abbrev launchRes : sProp 𝕄 := BI.own (ER (launchOf barCells scCells talkToks))

/-- What every device may consult: all the invariants, under one choice of names, and that every barrier is at its first round. -/
def records (κ : GSem nD τ sig → ℕ) : sProp 𝕄 :=
  iprop((bigSep (barCells ∪ scCells) fun g => cellInv ER (talk (parts m)) (κ g) g) ∗ bigSep barCells fun g => reached ER g 0)

instance records_persistent (κ : GSem nD τ sig → ℕ) : BI.Persistent (records m κ) := by unfold records; infer_instance

/-- What is device `c`'s alone. -/
def mine (c : Dev nD) : sProp 𝕄 :=
  iprop(atPos ER (barCell c) 0 ∅ 0
    ∗ (openTok ER (accSend c) ∗ openTok ER (statSend c) ∗ openTok ER (accRecv c) ∗ openTok ER (statRecv c))
    ∗ (dutyTok ER (barCell (mate c)) 0 () ∗ dutyTok ER (accSend c) 0 () ∗ dutyTok ER (statSend c) 0 ()
      ∗ dutyTok ER (accRecv (mate c)) 0 () ∗ dutyTok ER (statRecv (mate c)) 0 ()))

theorem ghost_intro (κ : GSem nD τ sig → ℕ) (c : Dev nD) : iprop(records m κ ∗ mine c) ⊢ iprop(∃ K, ghost m K c) := by
  have hI {g : GSem nD τ sig} (hg : g ∈ (barCells ∪ scCells : Finset (GSem nD τ sig))) :
      (bigSep (barCells ∪ scCells) fun g => (cellInv ER (talk (parts m)) (κ g) g : sProp 𝕄)) ⊢ cellInv ER (talk (parts m)) (κ g) g := bigSep_elim hg
  have hR : (bigSep barCells fun g => (reached ER g 0 : sProp 𝕄)) ⊢ reached ER (barCell (mate c)) 0 :=
    bigSep_elim (Finset.mem_map_of_mem barEmb (Finset.mem_univ (mate c)))
  unfold records mine ghost talkInvs
  iintro ⟨⟨#HI, #HR⟩, Hat, Ho, Ht⟩
  iexists κ
  isplitr
  · isplitr; · iapply (hI (sc_mem c 0)); iexact HI
    isplitr; · iapply (hI (sc_mem c 1)); iexact HI
    isplitr; · iapply (hI (sc_mem c 2)); iexact HI
    isplitr; · iapply (hI (sc_mem c 3)); iexact HI
    isplitr; · iapply (hI (sc_mem (mate c) 2)); iexact HI
    iapply (hI (sc_mem (mate c) 3)); iexact HI
  isplitr
  · isplitr; · iapply (hI (bar_mem c)); iexact HI
    iapply (hI (bar_mem (mate c))); iexact HI
  isplitr; · iapply hR; iexact HR
  isplitl [Ho]; · iexact Ho
  isplitl [Hat] <;> iassumption

/-- The duties' tokens, each dealt to the device that pays it. -/
theorem toks_dealt : bigSep talkToks (fun x => (dutyTok ER x.1 x.2.1 x.2.2 : sProp 𝕄))
    ⊢ bigSep Finset.univ fun c : Dev nD => iprop(dutyTok ER (barCell (mate c)) 0 () ∗ dutyTok ER (accSend c) 0 () ∗ dutyTok ER (statSend c) 0 ()
      ∗ dutyTok ER (accRecv (mate c)) 0 () ∗ dutyTok ER (statRecv (mate c)) 0 ()) := by
  have h : bigSep talkToks (fun x => (dutyTok ER x.1 x.2.1 x.2.2 : sProp 𝕄))
      = bigSep Finset.univ fun c : Dev nD => iprop(dutyTok ER (barCell c) 0 () ∗ dutyTok ER (accSend c) 0 () ∗ dutyTok ER (statSend c) 0 ()
        ∗ dutyTok ER (accRecv c) 0 () ∗ dutyTok ER (statRecv c) 0 ()) := by
    unfold talkToks; rw [bigSep_map, bigSep_univ_prod]
    exact bigSep_congr fun c _ => by
      rw [bigSep_univ_eq_bigSepL [0, 1, 2, 3, 4] (by decide) (by decide)]
      rfl
  rw [h]
  simp only [bigSep_sep']
  rw [bigSep_univ_equiv mates (fun c : Dev nD => (dutyTok ER (barCell c) 0 () : sProp 𝕄)),
    bigSep_univ_equiv mates (fun c : Dev nD => (dutyTok ER (accRecv c) 0 () : sProp 𝕄)),
    bigSep_univ_equiv mates (fun c : Dev nD => (dutyTok ER (statRecv c) 0 () : sProp 𝕄))]
  exact BI.Entails.refl _

/-! ### The launch credit -/

theorem owed_split (d : Dev nD) (g : GSem nD τ sig) : owesAll d g () =
    ((if g = accRecv (mate d) then accN else 0) + (if g = statRecv (mate d) then statN else 0)) + (if g = barCell (mate d) then 1 else 0) := by
  unfold owesAll owesRecv
  rw [Pi.add_apply, Pi.add_apply, Finsupp.add_apply, Finsupp.add_apply, tallyAt_apply, tallyAt_apply, tallyAt_apply]
  simp only [and_true]

theorem cell_at {c d : Dev nD} {s s' : SemLoc sig} : (((c : Thread nD τ), s) : GSem nD τ sig) = ((mate d : Thread nD τ), s') ↔ d = mate c ∧ s = s' := by
  constructor
  · intro h
    have hs := congrArg Prod.snd h
    have hc : c = mate d := congrArg (fun g : GSem nD τ sig => g.1.1) h
    exact ⟨by rw [hc, mate_mate], hs⟩
  · rintro ⟨rfl, rfl⟩; rw [mate_mate]

theorem owed_at (n : ℕ) (s : SemLoc sig) (hn : ∀ d c : Dev nD, owesAll d ((c : Thread nD τ), s) () = if d = mate c then n else 0) (c : Dev nD) :
    tallyOn ((c : Thread nD τ), s) (launchCredit (Pipeline.owing owesAll) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => hn d c, Finset.sum_ite_eq' Finset.univ (mate c) fun _ => n,
    if_pos (Finset.mem_univ _)]

theorem credits_intro (c : Dev nD) : (Pipeline.launchCred owesAll c : sProp 𝕄) ⊢ credits c := by
  have hb := owed_at 1 (.reg barS) (fun d c => by
    rw [owed_split, if_neg (fun h => absurd (cell_at.mp h).2 (by decide)), if_neg (fun h => absurd (cell_at.mp h).2 (by decide)), Nat.zero_add]
    exact if_congr (cell_at.trans (and_iff_left rfl)) rfl rfl) c
  have ha := owed_at accN (.dma accRecvS) (fun d c => by
    rw [owed_split, if_neg (c := _ = statRecv (mate d)) (fun h => absurd (cell_at.mp h).2 (by decide)),
      if_neg (c := _ = barCell (mate d)) (fun h => absurd (cell_at.mp h).2 (by decide)), Nat.add_zero]
    exact if_congr (cell_at.trans (and_iff_left rfl)) rfl rfl) c
  have hs := owed_at statN (.dma statRecvS) (fun d c => by
    rw [owed_split, if_neg (c := _ = accRecv (mate d)) (fun h => absurd (cell_at.mp h).2 (by decide)),
      if_neg (c := _ = barCell (mate d)) (fun h => absurd (cell_at.mp h).2 (by decide)), Nat.add_zero, Nat.zero_add]
    exact if_congr (cell_at.trans (and_iff_left rfl)) rfl rfl) c
  unfold Pipeline.launchCred credits
  rw [bigSep_univ_at _ (SemLoc.reg barS), hb]
  refine sep_mono_right ?_
  rw [← ha, ← hs, ← Finset.insert_erase (a := SemLoc.dma accRecvS) (s := Finset.univ.erase (SemLoc.reg barS)) (by decide),
    bigSep_insert (Finset.notMem_erase _ _)]
  refine sep_mono_right ?_
  exact bigSep_elim (Finset.mem_erase.mpr ⟨by decide, Finset.mem_erase.mpr ⟨by decide, Finset.mem_univ _⟩⟩)

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings besides the protocol's state. -/
def bundle (c : Dev nD) : sProp 𝕄 :=
  iprop(StableHlo.held (c : Thread nD τ) (Pipeline.ucRefs τ sig) (fun b => m (c, b)) ∗ credits c ∗ owes (c : Thread nD τ) (owesAll c) ∅ ∗ ∃ r, prngReg c r)

abbrev T₀ (c : Dev nD) : sProp 𝕄 := iprop(StableHlo.held (c : Thread nD τ) (Pipeline.ucRefs τ sig) (fun b => m (c, b)) ∗ before m c)
abbrev Tₙ (c : Dev nD) : sProp 𝕄 := iprop(StableHlo.held (c : Thread nD τ) (Pipeline.ucRefs τ sig) (V2 m c) ∗ semVal (barCell c) 0)

theorem T₀_intro (κ : GSem nD τ sig → ℕ) (c : Dev nD) : iprop(records m κ ∗ (mine c ∗ bundle m c)) ⊢ T₀ m c := by
  unfold bundle T₀ before Tk
  iintro ⟨#HR, Hl, Hh, Hc, HO, Hp⟩
  isplitl [Hh]; · iexact Hh
  isplitr [HO]
  · isplitr [Hp]
    · isplitl [Hl]
      · iapply (ghost_intro m κ c)
        isplitr; · iexact HR
        iexact Hl
      iexact Hc
    iexact Hp
  · iexists ∅; iexact HO

theorem init :
    iprop((bigSep Finset.univ fun c : Dev nD => iprop(unscopedBufs c (fun b => m ((c : Thread nD τ).loc b)) ∗ unscopedSems0 c
          ∗ owes (c : Thread nD τ) (owesAll c) ∅ ∗ Pipeline.launchCred owesAll c ∗ prngReg c (ρ c) ∗ parked launchRes c)) ∗ levAts Lset lvl)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owesAll c) ∅ ∗ Pipeline.launchCred owesAll c ∗ prngReg c (ρ c) ∗ parked launchRes c)
      ⊢ (iprop(bundle m c ∗ (semVal (barCell c) 0 ∗ parked launchRes c)) : sProp 𝕄) := by
    rw [show unscopedBufs c (fun b => m ((c : Thread nD τ).loc b)) = StableHlo.held (c : Thread nD τ) (Pipeline.ucRefs τ sig) (fun b => m (c, b)) from
        Pipeline.unscopedBufs_held c (fun b => m (c, b)), unscopedSems_eq]
    unfold bundle
    iintro ⟨Hh, Hus, HO, Hcr, Hp, HG⟩
    isplitr [Hus HG]
    · isplitl [Hh]; · iexact Hh
      isplitl [Hcr]; · iapply (credits_intro (F := F) c); iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => iprop(openTok ER (accSend c) ∗ openTok ER (statSend c) ∗ openTok ER (accRecv c) ∗ openTok ER (statRecv c))) :=
    Entails.of_eq (by
      rw [bigSep_map, bigSep_univ_prod]
      exact bigSep_congr fun c _ => by
        rw [bigSep_univ_eq_bigSepL [0, 1, 2, 3] (by decide) (by decide)]
        rfl)
  iintro ⟨H, -⟩
  ihave H' := (show (bigSep Finset.univ fun c : Dev nD => iprop(unscopedBufs c (fun b => m ((c : Thread nD τ).loc b)) ∗ unscopedSems0 c
          ∗ owes (c : Thread nD τ) (owesAll c) ∅ ∗ Pipeline.launchCred owesAll c ∗ prngReg c (ρ c) ∗ parked launchRes c))
      ⊢ (bigSep Finset.univ fun c : Dev nD => iprop(bundle m c ∗ (semVal (barCell c) 0 ∗ parked launchRes c)) : sProp 𝕄) from bigSep_mono fun c _ => hcore c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (show bigSep Finset.univ (parked (F := F) launchRes) ⊢ launchRes from Entails.of_eq (bigSep_parked (F := F) launchRes)) $$ HG
  imod (Rounds.fund_launch ER (talk (parts m)) cells_disjoint (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine c ∗ bundle m c)) fun c _ => T₀_intro m κ c)
  isplitr
  · unfold records
    isplitr; · iexact Hinv
    iexact Hr
  iapply (Entails.of_eq (bigSep_sep' ..).symm)
  isplitr [HB]
  · unfold mine
    iapply (Entails.of_eq (bigSep_sep' ..).symm); isplitl [Hat]; · iapply hat $$ Hat
    iapply (Entails.of_eq (bigSep_sep' ..).symm); isplitl [Hopen]; · iapply hop $$ Hopen
    iapply (toks_dealt (F := F)) $$ Htok
  · iexact HB

/-! ## The run -/

theorem held_bufs (c : Dev nD) (W : Valuation τ sig (Elt F)) : (StableHlo.held (c : Thread nD τ) (Pipeline.ucRefs τ sig) W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v4) ↦{fullShare} W (Proc.devRef .tc main_v4))
      ∗ (((c : Thread nD τ).loc main_v1) ↦{fullShare} W (Proc.devRef .tc main_v1))
      ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq ([main_arg0, main_arg1, main_arg2, main_v4, main_v1, main_v2, main_v3].map (Proc.devRef .tc)) (by decide) (by decide)]
  rfl

theorem unscoped_sem : ∀ sm : SemLoc sig, sm.isScoped .tc = false → sm = .reg barS := by decide

set_option backward.isDefEq.respectTransparency.types false in
/-- From any memory, every execution ends, with every buffer as `V2` says and every semaphore at zero. -/
theorem run_contents : θ_run defs (onTc (τ := τ) (main (F := F))) ⟨m, fun _ => 0, ρ⟩
    (fun r => (∀ c : Dev nD, r.2.mem ((c : Thread nD τ).loc main_arg0) = V2 m c (Proc.devRef .tc main_arg0)
        ∧ r.2.mem ((c : Thread nD τ).loc main_arg1) = V2 m c (Proc.devRef .tc main_arg1)
        ∧ r.2.mem ((c : Thread nD τ).loc main_arg2) = V2 m c (Proc.devRef .tc main_arg2)
        ∧ r.2.mem ((c : Thread nD τ).loc main_v4) = V2 m c (Proc.devRef .tc main_v4)) ∧ r.2.sem = fun _ => 0) :=
  Pipeline.θ_run_regions_kit_sems (pcfgs (F := F)) adm (pdats m) () cellOf_inj EP defs₀ 𝒱₀ Lset lvl m ρ main (segs m)
    (fun c Q => by rw [main_eq m c])
    (by simp only [segs, Pipeline.Seg.pipes_host, Pipeline.Seg.pipes_region, Pipeline.Seg.pipes_nil]; decide)
    (O₀ := owesAll) (hL := Lset_of_ne) (G := parked launchRes) (u₀ := u₀ (F := F))
    (hu₀ := by
      unfold u₀
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := by
      refine ⟨fun c => .rfl, fun c => reg_pre m c, fun c => reg_post m c, fun c => ?_⟩
      show iprop(StableHlo.held (c : Thread nD τ) (Pipeline.ucRefs τ sig) (V2 m c) ∗ afterwards c)
        ⊢ iprop(Tₙ m c ∗ ∃ W, owes (c : Thread nD τ) (0 : CellTallies nD τ sig Unit) W)
      unfold afterwards
      iintro ⟨Hh, Hb, HO⟩
      isplitr [HO]
      · isplitl [Hh] <;> iassumption
      · iexact HO)
    (hinit := init m ρ)
    (QY := fun c s => (s.mem ((c : Thread nD τ).loc main_arg0) = V2 m c (Proc.devRef .tc main_arg0)
        ∧ s.mem ((c : Thread nD τ).loc main_arg1) = V2 m c (Proc.devRef .tc main_arg1)
        ∧ s.mem ((c : Thread nD τ).loc main_arg2) = V2 m c (Proc.devRef .tc main_arg2)
        ∧ s.mem ((c : Thread nD τ).loc main_v4) = V2 m c (Proc.devRef .tc main_v4)) ∧ s.sem (barCell c) = 0)
    (hfin := fun c s' => by
      dsimp only [Tₙ]; rw [held_bufs]
      iintro ⟨⟨HH, Hb⟩, HSI⟩
      icases HH with ⟨H0, H1, H2, H4, -⟩
      icombine HSI H0 gives %h0
      icombine HSI H1 gives %h1
      icombine HSI H2 gives %h2
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h4⟩, by simpa using hb⟩
      iexact HSI)
    (hQ := fun s h hs => ⟨fun c => (h c).1, sem_eq_zero hs fun c sm hsm => by
        obtain rfl := unscoped_sem sm hsm
        exact (h c).2⟩)

end Cert.FlashDecode
-- ==== Proof.Outcome.lean ====
/-
  What the program leaves: each device's arguments as they were, and its result as a closed term of its own and its mate's
  arguments.
-/
module

public import proofs.«01_k».proof.Proof.Launch
public import Idealize.ShloMosaic.Lib.Pipeline.ValueKit.Geometry
public import proofs.«01_k».proof.Proof.Gen.KernelIdeal.Skeleton
public import Idealize.ShloMosaic.Lib.VecWindow

@[expose] public section

noncomputable section

namespace Cert.FlashDecode

open Cert.KernelIdeal Cert.KernelIdeal.Gen
open Idealize.ShloMosaic
open Idealize.ShloMosaic.TcCoe
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ) (ρ : Dev nD → PrngReg)

/-- What device `c` computes: its own and its mate's parts combined, in the result's shape. -/
def result (c : Dev nD) : Buf (Elt F) ((c : Thread nD τ).loc main_v4) :=
  shapeCast S16x1x16x64 (outOf (parts m c) (parts m (mate c)))

theorem out_array (c : Dev nD) : (dat m c).arrAt 3 cfg0.N = outOf (parts m c) (parts m (mate c)) :=
  (dat m c).arrAt_eq_of_after_last 3 (point 7) (by decide +kernel) _ fun j => rfl

theorem V2_v4 (c : Dev nD) : V2 m c (Proc.devRef .tc main_v4) = result m c := by
  unfold V2 result
  simp only [hostOps1, StableHlo.after_cons, StableHlo.after_nil]
  rw [StableHlo.reshape_result', V1_arr m c 3, out_array]
  rfl

theorem V2_keep (c : Dev nD) (b : Ref sig .tc) (hb : b ≠ main_v4) : V2 m c (Proc.devRef .tc b) = V1 m c (Proc.devRef .tc b) := by
  unfold V2
  refine StableHlo.after_of_forall_not_mem (b := Proc.devRef .tc b) _ _ (List.forall_iff_forall_mem.mp ?_)
  simp only [hostOps1, List.Forall, StableHlo.reshape_writes, Finset.mem_singleton]
  exact StableHlo.devRef_ne_of_ne hb

theorem V2_arg0 (c : Dev nD) : V2 m c (Proc.devRef .tc main_arg0) = m ((c : Thread nD τ).loc main_arg0) :=
  ((V2_keep m c main_arg0 (by decide)).trans (V1_arr m c 0)).trans (((dat m c).arrAt_in 0 rfl _).trans (V_main_arg0 m c))
theorem V2_arg1 (c : Dev nD) : V2 m c (Proc.devRef .tc main_arg1) = m ((c : Thread nD τ).loc main_arg1) :=
  ((V2_keep m c main_arg1 (by decide)).trans (V1_rest m c _ (by decide))).trans (V_main_arg1 m c)
theorem V2_arg2 (c : Dev nD) : V2 m c (Proc.devRef .tc main_arg2) = m ((c : Thread nD τ).loc main_arg2) :=
  ((V2_keep m c main_arg2 (by decide)).trans (V1_rest m c _ (by decide))).trans (V_main_arg2 m c)

/-- From any memory, every execution of the program ends with each device's arguments as they were, its result `result m c`, and
    every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v4) = result m c) ∧ r.2.sem = fun _ => 0) :=
  (θ_run defs _ _).mono (fun r h => ⟨fun c => ⟨((h.1 c).1).trans (V2_arg0 m c), ((h.1 c).2.1).trans (V2_arg1 m c),
    ((h.1 c).2.2.1).trans (V2_arg2 m c), ((h.1 c).2.2.2).trans (V2_v4 m c)⟩, h.2⟩) (run_contents m ρ)

end Cert.FlashDecode
-- ==== Proof.Softmax.lean ====
/-
  Softmax-weighted sums over the extended reals: two halves, each summed against its own maximum and then rescaled to the common
  one, give the whole. The scores are real; the values weighted may be any extended reals.
-/
module

public import Idealize.ShloMosaic.PureOps.Ideal

@[expose] public section

noncomputable section

namespace Cert.FlashDecode

open Idealize.ShloMosaic

/-! ## Real factors in sums of extended reals -/

theorem coe_sum {ι : Type} (S : Finset ι) (f : ι → ℝ) : ((∑ i ∈ S, f i : ℝ) : EReal) = ∑ i ∈ S, (f i : EReal) := by
  classical
  induction S using Finset.induction_on with
  | empty => simp
  | insert a T ha ih => rw [Finset.sum_insert ha, Finset.sum_insert ha, EReal.coe_add, ih]

theorem add_mul_real (x y : EReal) {r : ℝ} (hr : 0 ≤ r) : (x + y) * (r : EReal) = x * r + y * r :=
  EReal.right_distrib_of_nonneg_of_ne_top (by exact_mod_cast hr) (EReal.coe_ne_top r) x y

theorem sum_mul_real {ι : Type} (S : Finset ι) (f : ι → EReal) {r : ℝ} (hr : 0 ≤ r) : (∑ i ∈ S, f i) * (r : EReal) = ∑ i ∈ S, f i * r := by
  classical
  induction S using Finset.induction_on with
  | empty => simp
  | insert a T ha ih => rw [Finset.sum_insert ha, Finset.sum_insert ha, add_mul_real _ _ hr, ih]

theorem div_real (x : EReal) {r : ℝ} (hr : r ≠ 0) : Ideal.div x r = x * ((r⁻¹ : ℝ) : EReal) := by
  unfold Ideal.div
  rw [if_neg (by exact_mod_cast hr), EReal.coe_inv]

theorem exp_sub_real (x y : ℝ) : Ideal.exp ((x : EReal) - (y : EReal)) = ((Real.exp (x - y) : ℝ) : EReal) := by
  rw [← EReal.coe_sub]; rfl

/-! ## A maximum, weights, and what they give -/

section
variable {ι ι₁ ι₂ κ : Type} [Fintype ι] [Fintype ι₁] [Fintype ι₂] [Fintype κ]

/-- The greatest score. -/
def greatest (s : ι → EReal) : EReal := Finset.univ.fold max ⊥ s
/-- The sum of the weights, and the values' weighted sum, both against the greatest score. -/
def weight (s : ι → EReal) : EReal := ∑ k, Ideal.exp (s k - greatest s)
def weighted (s v : ι → EReal) : EReal := ∑ k, Ideal.exp (s k - greatest s) * v k
/-- Softmax attention in one piece. -/
def attend (s v : ι → EReal) : EReal := ∑ k, v k * Ideal.div (Ideal.exp (s k - greatest s)) (weight s)
/-- Two pieces' greatest scores, weights and weighted sums put together. -/
def joinParts (t₁ t₂ l₁ l₂ a₁ a₂ : EReal) : EReal :=
  Ideal.div (a₁ * Ideal.exp (t₁ - max t₁ t₂) + a₂ * Ideal.exp (t₂ - max t₁ t₂)) (l₁ * Ideal.exp (t₁ - max t₁ t₂) + l₂ * Ideal.exp (t₂ - max t₁ t₂))

theorem greatest_eq_sup (s : ι → EReal) : greatest s = Finset.univ.sup s := rfl

theorem greatest_real [Nonempty ι] (s : ι → ℝ) : ∃ m : ℝ, greatest (fun k => (s k : EReal)) = m := by
  obtain ⟨k, -, hk⟩ := Finset.exists_mem_eq_sup (Finset.univ : Finset ι) Finset.univ_nonempty fun k => (s k : EReal)
  exact ⟨s k, hk⟩

theorem greatest_split (e : ι₁ ⊕ ι₂ ≃ κ) (s : κ → EReal) :
    greatest s = max (greatest fun k => s (e (.inl k))) (greatest fun k => s (e (.inr k))) := by
  simp only [greatest_eq_sup]
  refine le_antisymm (Finset.sup_le fun k _ => ?_) (max_le (Finset.sup_le fun k _ => ?_) (Finset.sup_le fun k _ => ?_))
  · obtain ⟨x, rfl⟩ := e.surjective k
    rcases x with x | x
    · exact le_max_of_le_left (Finset.le_sup (f := fun k => s (e (.inl k))) (Finset.mem_univ x))
    · exact le_max_of_le_right (Finset.le_sup (f := fun k => s (e (.inr k))) (Finset.mem_univ x))
  · exact Finset.le_sup (f := s) (Finset.mem_univ _)
  · exact Finset.le_sup (f := s) (Finset.mem_univ _)

/-- One piece's weights rescaled from its own greatest score `t` to `m`. -/
theorem weighted_rescaled (s : ι → ℝ) (v : ι → EReal) (t m : ℝ) :
    (∑ k, Ideal.exp ((s k : EReal) - (t : EReal)) * v k) * Ideal.exp ((t : EReal) - (m : EReal)) = ∑ k, v k * ((Real.exp (s k - m) : ℝ) : EReal) := by
  rw [exp_sub_real, sum_mul_real _ _ (Real.exp_pos _).le]
  refine Finset.sum_congr rfl fun k _ => ?_
  rw [exp_sub_real, mul_comm _ (v k), mul_assoc, ← EReal.coe_mul, ← Real.exp_add, sub_add_sub_cancel]

theorem weight_rescaled (s : ι → ℝ) (t m : ℝ) :
    (∑ k, Ideal.exp ((s k : EReal) - (t : EReal))) * Ideal.exp ((t : EReal) - (m : EReal)) = ((∑ k, Real.exp (s k - m) : ℝ) : EReal) := by
  have h := weighted_rescaled s (fun _ => 1) t m
  simp only [mul_one, one_mul] at h
  rw [h, coe_sum]

/-- Attention over real scores is the join of its two halves' parts. -/
theorem join_eq_attend [Nonempty ι₁] [Nonempty ι₂] (e : ι₁ ⊕ ι₂ ≃ κ) (s : κ → ℝ) (v : κ → EReal) :
    joinParts (greatest fun k => (s (e (.inl k)) : EReal)) (greatest fun k => (s (e (.inr k)) : EReal))
        (weight fun k => (s (e (.inl k)) : EReal)) (weight fun k => (s (e (.inr k)) : EReal))
        (weighted (fun k => (s (e (.inl k)) : EReal)) fun k => v (e (.inl k))) (weighted (fun k => (s (e (.inr k)) : EReal)) fun k => v (e (.inr k)))
      = attend (fun k => (s k : EReal)) v := by
  haveI : Nonempty κ := ⟨e (.inl (Classical.arbitrary ι₁))⟩
  have hg := greatest_split e fun k => (s k : EReal)
  obtain ⟨t₁, h₁⟩ := greatest_real fun k => s (e (.inl k))
  obtain ⟨t₂, h₂⟩ := greatest_real fun k => s (e (.inr k))
  obtain ⟨m, hm⟩ := greatest_real s
  unfold joinParts attend weight weighted
  rw [← hg, h₁, h₂, hm, weighted_rescaled, weighted_rescaled, weight_rescaled, weight_rescaled, ← EReal.coe_add]
  simp only [exp_sub_real]
  have hL : ∑ k, Real.exp (s (e (.inl k)) - m) + ∑ k, Real.exp (s (e (.inr k)) - m) = ∑ k, Real.exp (s k - m) := by
    rw [← Fintype.sum_sum_type fun x => Real.exp (s (e x) - m)]
    exact e.sum_comp fun k => Real.exp (s k - m)
  have hpos : 0 < ∑ k, Real.exp (s k - m) := Finset.sum_pos (fun k _ => Real.exp_pos _) Finset.univ_nonempty
  have hinv : 0 ≤ (∑ k, Real.exp (s k - m))⁻¹ := inv_nonneg.mpr hpos.le
  rw [hL, ← coe_sum, div_real _ hpos.ne', add_mul_real _ _ hinv, sum_mul_real _ _ hinv, sum_mul_real _ _ hinv,
    ← Fintype.sum_sum_type fun x => v (e x) * ((Real.exp (s (e x) - m) : ℝ) : EReal) * (((∑ k, Real.exp (s k - m))⁻¹ : ℝ) : EReal),
    e.sum_comp fun k => v k * ((Real.exp (s k - m) : ℝ) : EReal) * (((∑ k, Real.exp (s k - m))⁻¹ : ℝ) : EReal)]
  refine Finset.sum_congr rfl fun k _ => ?_
  rw [div_real _ hpos.ne', mul_assoc]
end

end Cert.FlashDecode
-- ==== Proof.Payloads.lean ====
/-
  The arithmetic of one grid point, read at an index over the extended reals: its scores, their greatest, the sum of the weights,
  the weighted values, and the tile of the result.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.FlashDecode

open Cert.KernelIdeal Cert.KernelIdeal.Gen
open Idealize.ShloMosaic

theorem ofBits_neg_inf : Ideal.ofBits .f32 0xFF800000#32 = (⊥ : EReal) := by simp [Ideal.ofBits, Ideal.ieee]

theorem pick_word : ∀ (r : Fin 2) (j : Fin 128), BitVec.setWidth 32
        (IntOp.cmpi CmpIPredicate.eq (BitVec.ofNat 32 r.val)
          (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32))) = if j.val / 64 = r.val then 1#32 else 0#32 := by
  decide

/-- The matrix that spreads two heads' entries over their columns. -/
theorem pick_apply (r : Fin 2) (j : Fin 128) : (k0_pay38 (F := Ideal)) (ix2 r j) = if j.val / 64 = r.val then (1 : EReal) else 0 := by
  pointwise [k0_pay38]
  rw [pick_word r j]
  split_ifs
  · show (((1#32 : BitVec 32).toInt : ℝ) : EReal) = 1; simp
  · show (((0#32 : BitVec 32).toInt : ℝ) : EReal) = 0; simp

/-- A sum against it is the one entry of the column's head. -/
theorem sum_pick (f : Fin 2 → EReal) (r : Fin 2) (j : Fin 128) (hr : j.val / 64 = r.val) :
    ∑ x : Fin 2, f x * (k0_pay38 (F := Ideal)) (ix2 x j) = f r := by
  simp only [pick_apply]
  rw [Finset.sum_eq_single r (fun x _ hx => by rw [if_neg (fun h => hx (Fin.ext (h.symm.trans hr))), mul_zero]) (fun h => absurd (Finset.mem_univ r) h), if_pos hr, mul_one]

theorem score_apply (q : S16x2x64x1.Idx → EReal) (k : S16x2x64x1024.Idx → EReal) (b : Fin 16) (r : Fin 2) (t : Fin 1024) :
    k0_pay40 (F := Ideal) q k (ix3 b r t) = ∑ d : Fin 64, k (ix4 b r d t) * q (ix4 b r d 0) := by
  pointwise [k0_pay40]

theorem top_apply (q : S16x2x64x1.Idx → EReal) (k : S16x2x64x1024.Idx → EReal) (b : Fin 16) (r : Fin 2) :
    k0_pay41 (F := Ideal) q k (ix2 b r) = greatest fun t : Fin 1024 => k0_pay40 (F := Ideal) q k (ix3 b r t) := by
  pointwise [k0_pay41]
  rw [ofBits_neg_inf]; rfl

theorem exp_apply (q : S16x2x64x1.Idx → EReal) (k : S16x2x64x1024.Idx → EReal) (b : Fin 16) (r : Fin 2) (t : Fin 1024) :
    k0_pay42 (F := Ideal) q k (ix3 b r t) = Ideal.exp (k0_pay40 (F := Ideal) q k (ix3 b r t) - k0_pay41 (F := Ideal) q k (ix2 b r)) := by
  pointwise [k0_pay42]

theorem sum_apply (q : S16x2x64x1.Idx → EReal) (k : S16x2x64x1024.Idx → EReal) (b : Fin 16) (r : Fin 2) :
    k0_pay43 (F := Ideal) q k (ix2 b r) = ∑ t : Fin 1024, k0_pay42 (F := Ideal) q k (ix3 b r t) := by
  pointwise [k0_pay43]

theorem acc_apply (q : S16x2x64x1.Idx → EReal) (k v : S16x2x64x1024.Idx → EReal) (b : Fin 16) (j : Fin 128) :
    k0_pay44 (F := Ideal) k0_pay38 q k v (ix2 b j)
      = ∑ t : Fin 1024, k0_pay42 (F := Ideal) q k (ix3 b ⟨j.val / 64, by omega⟩ t) * v (ix4 b ⟨j.val / 64, by omega⟩ ⟨j.val % 64, by omega⟩ t) := by
  pointwise [k0_pay44]
  exact sum_pick (fun x => ∑ x_1, k0_pay42 (F := Ideal) q k (ix3 b x x_1) * v (ix4 b ⟨j.val / 64, by omega⟩ ⟨j.val % 64, by omega⟩ x_1)) ⟨j.val / 64, by omega⟩ j rfl

theorem tile_apply (t l : S1x16x2.Idx → EReal) (t' l' : S1x1x1x16x2.Idx → EReal) (a : S16x128.Idx → EReal) (a' : S1x16x128.Idx → EReal)
    (b : Fin 16) (j : Fin 128) (r : Fin 2) (hr : j.val / 64 = r.val) :
    k0_pay6 (F := Ideal) k0_pay38 t l t' l' a a' (ix2 b j)
      = joinParts (t (ix3 0 b r)) (t' (ix5 0 0 0 b r)) (l (ix3 0 b r)) (l' (ix5 0 0 0 b r)) (a (ix2 b j)) (a' (ix3 0 b j)) := by
  pointwise [k0_pay6]
  unfold joinParts
  rw [sum_pick (fun x => Ideal.exp (t (ix3 0 b x) - max (t (ix3 0 b x)) (t' (ix5 0 0 0 b x)))) r j hr,
    sum_pick (fun x => Ideal.exp (t' (ix5 0 0 0 b x) - max (t (ix3 0 b x)) (t' (ix5 0 0 0 b x)))) r j hr,
    sum_pick (fun x => l (ix3 0 b x) * Ideal.exp (t (ix3 0 b x) - max (t (ix3 0 b x)) (t' (ix5 0 0 0 b x))) +
      l' (ix5 0 0 0 b x) * Ideal.exp (t' (ix5 0 0 0 b x) - max (t (ix3 0 b x)) (t' (ix5 0 0 0 b x)))) r j hr]

end Cert.FlashDecode
-- ==== Proof.DeviceValue.lean ====
/-
  The kernel's value, read at an index over the extended reals: a device's result at a sequence and head is its own part and its
  partner's part of the attention, joined. A part ranges over the keys that the device holds.
-/
module

public import proofs.«01_k».proof.Proof.Outcome
public import proofs.«01_k».proof.Proof.Payloads

@[expose] public section

set_option maxRecDepth 16384

noncomputable section

namespace Cert.FlashDecode

open Cert.KernelIdeal Cert.KernelIdeal.Gen
open Idealize.ShloMosaic
open Idealize.ShloMosaic.TcCoe
open Idealize.SL.Sem

variable (m : (ℓ : Loc nD τ sig) → Buf (Elt Ideal) ℓ)

/-! ## What the devices hold -/

/-- A device's queries, keys and values, as they are when the program starts. -/
def argQ (c : Dev nD) : S16x1x16x64.Idx → EReal := m ((c : Thread nD τ).loc main_arg0)
def argK (c : Dev nD) : S16x1024x16x64.Idx → EReal := m ((c : Thread nD τ).loc main_arg1)
def argV (c : Dev nD) : S16x1024x16x64.Idx → EReal := m ((c : Thread nD τ).loc main_arg2)

/-- A sequence's and head's score against key `t` of the device. -/
def devScore (c : Dev nD) (b h : Fin 16) (t : Fin 1024) : EReal :=
  ∑ d : Fin 64, argK m c (ix4 b t h d) * (argQ m c (ix4 b 0 h d) * ((1 / 8 : ℝ) : EReal))

theorem arr_query (c : Dev nD) : (V m c (Pipeline.arrRef spec0 0) : S16x1x16x64.Idx → EReal) = argQ m c := V_main_arg0 m c
theorem arr_keys (c : Dev nD) : (V m c (Pipeline.arrRef spec0 1) : S16x16x64x1024.Idx → EReal)
    = transpose S16x16x64x1024 [0, 2, 3, 1] (argK m c) transposes_S16x1024x16x64_S16x16x64x1024_0_2_3_1 := by
  show V m c main_v1 = _
  unfold V V0
  after_results
  rfl
theorem arr_values (c : Dev nD) : (V m c (Pipeline.arrRef spec0 2) : S16x16x64x1024.Idx → EReal)
    = transpose S16x16x64x1024 [0, 2, 3, 1] (argV m c) transposes_S16x1024x16x64_S16x16x64x1024_0_2_3_1 := by
  show V m c main_v2 = _
  unfold V V0
  after_results
  rfl

theorem index0_at : ∀ t : Fin cfg0.N, win0_0.index t = ![0, 0, 0, 0] := by decide
theorem index1_at : ∀ t : Fin cfg0.N, win0_1.index t = ![0, t.val, 0, 0] := by decide
theorem index2_at : ∀ t : Fin cfg0.N, win0_2.index t = ![0, t.val, 0, 0] := by decide
theorem off1_at : ∀ t : Fin cfg0.N, k0_off1 (grid0.coords t) = ![0, 2 * t.val, 0, 0] := by decide

theorem blkQ_apply (c : Dev nD) (b h : Fin 16) (d : Fin 64) : blkQ (F := Ideal) m c (ix4 b 0 h d) = argQ m c (ix4 b 0 h d) := by
  unfold blkQ iblk
  rw [View.read_apply]
  refine (congrFun (arr_query m c) _).trans (congrArg (argQ m c) (funext fun a => Fin.ext ?_))
  have hi := index0_at (point 0)
  match a with
  | ⟨0, _⟩ => show win0_0.index (point 0) 0 * 16 + 1 * b.val = b.val; rw [hi]; show 0 * 16 + 1 * b.val = b.val; omega
  | ⟨1, _⟩ => show win0_0.index (point 0) 1 * 1 + 1 * 0 = 0; rw [hi]; rfl
  | ⟨2, _⟩ => show win0_0.index (point 0) 2 * 16 + 1 * h.val = h.val; rw [hi]; show 0 * 16 + 1 * h.val = h.val; omega
  | ⟨3, _⟩ => show win0_0.index (point 0) 3 * 64 + 1 * d.val = d.val; rw [hi]; show 0 * 64 + 1 * d.val = d.val; omega

/-- The keys as the program lays them out for its blocks, and the values. -/
theorem turned_apply (x : S16x1024x16x64.Idx → EReal) (b h : Fin 16) (d : Fin 64) (t : Fin 1024) :
    transpose S16x16x64x1024 [0, 2, 3, 1] x transposes_S16x1024x16x64_S16x16x64x1024_0_2_3_1 (ix4 b h d t) = x (ix4 b t h d) := by
  pointwise

theorem blkK_apply (c : Dev nD) (n : Fin 8) (b h : Fin 16) (r : Fin 2) (d : Fin 64) (t : Fin 1024) (hh : h.val = 2 * n.val + r.val) :
    blkK (F := Ideal) m c (point n) (ix4 b r d t) = argK m c (ix4 b t h d) := by
  rw [← turned_apply (argK m c)]
  unfold blkK iblk
  rw [View.read_apply]
  refine (congrFun (arr_keys m c) _).trans (congrArg (transpose _ _ _ _) (funext fun a => Fin.ext ?_))
  have hi := index1_at (point n)
  match a with
  | ⟨0, _⟩ => show win0_1.index (point n) 0 * 16 + 1 * b.val = b.val; rw [hi]; show 0 * 16 + 1 * b.val = b.val; omega
  | ⟨1, _⟩ => show win0_1.index (point n) 1 * 2 + 1 * r.val = h.val; rw [hi]; show n.val * 2 + 1 * r.val = h.val; omega
  | ⟨2, _⟩ => show win0_1.index (point n) 2 * 64 + 1 * d.val = d.val; rw [hi]; show 0 * 64 + 1 * d.val = d.val; omega
  | ⟨3, _⟩ => show win0_1.index (point n) 3 * 1024 + 1 * t.val = t.val; rw [hi]; show 0 * 1024 + 1 * t.val = t.val; omega

theorem blkV_apply (c : Dev nD) (n : Fin 8) (b h : Fin 16) (r : Fin 2) (d : Fin 64) (t : Fin 1024) (hh : h.val = 2 * n.val + r.val) :
    blkV (F := Ideal) m c (point n) (ix4 b r d t) = argV m c (ix4 b t h d) := by
  rw [← turned_apply (argV m c)]
  unfold blkV iblk
  rw [View.read_apply]
  refine (congrFun (arr_values m c) _).trans (congrArg (transpose _ _ _ _) (funext fun a => Fin.ext ?_))
  have hi := index2_at (point n)
  match a with
  | ⟨0, _⟩ => show win0_2.index (point n) 0 * 16 + 1 * b.val = b.val; rw [hi]; show 0 * 16 + 1 * b.val = b.val; omega
  | ⟨1, _⟩ => show win0_2.index (point n) 1 * 2 + 1 * r.val = h.val; rw [hi]; show n.val * 2 + 1 * r.val = h.val; omega
  | ⟨2, _⟩ => show win0_2.index (point n) 2 * 64 + 1 * d.val = d.val; rw [hi]; show 0 * 64 + 1 * d.val = d.val; omega
  | ⟨3, _⟩ => show win0_2.index (point n) 3 * 1024 + 1 * t.val = t.val; rw [hi]; show 0 * 1024 + 1 * t.val = t.val; omega

/-! ## A point's part -/

theorem ofBits_scale : Ideal.ofBits .f32 0x3E000000#32 = ((1 / 8 : ℝ) : EReal) := by
  simp [Ideal.ofBits, Ideal.ieee]
  rw [← EReal.coe_mul]; norm_num

theorem scaledQ_apply (c : Dev nD) (b h : Fin 16) (d : Fin 64) : scaledQ (F := Ideal) m c (ix4 b h d 0) = argQ m c (ix4 b 0 h d) * ((1 / 8 : ℝ) : EReal) := by
  rw [← blkQ_apply, ← ofBits_scale]
  unfold scaledQ
  pointwise [k0_pay39]

theorem qPair_apply (n : Fin 8) (q : S16x16x64x1.Idx → EReal) (b h : Fin 16) (r : Fin 2) (d : Fin 64) (hh : h.val = 2 * n.val + r.val) :
    qPair (F := Ideal) (grid0.coords (point n)) q (ix4 b r d 0) = q (ix4 b h d 0) := by
  unfold qPair VecWindow.window
  refine congrArg q (funext fun a => Fin.ext ?_)
  have hi := off1_at (point n)
  match a with
  | ⟨0, _⟩ => show k0_off1 (grid0.coords (point n)) 0 + 1 * b.val = b.val; rw [hi]; show 0 + 1 * b.val = b.val; omega
  | ⟨1, _⟩ => show k0_off1 (grid0.coords (point n)) 1 + 1 * r.val = h.val; rw [hi]; show 2 * n.val + 1 * r.val = h.val; omega
  | ⟨2, _⟩ => show k0_off1 (grid0.coords (point n)) 2 + 1 * d.val = d.val; rw [hi]; show 0 + 1 * d.val = d.val; omega
  | ⟨3, _⟩ => show k0_off1 (grid0.coords (point n)) 3 + 1 * 0 = 0; rw [hi]; rfl

/-- The vectors that point `n` of device `c` works on. -/
abbrev ptQ (c : Dev nD) (n : Fin 8) : S16x2x64x1.Idx → EReal := qPair (F := Ideal) (grid0.coords (point n)) (scaledQ (F := Ideal) m c)
abbrev ptK (c : Dev nD) (n : Fin 8) : S16x2x64x1024.Idx → EReal := blkK (F := Ideal) m c (point n)
abbrev ptV (c : Dev nD) (n : Fin 8) : S16x2x64x1024.Idx → EReal := blkV (F := Ideal) m c (point n)

variable (c : Dev nD) (n : Fin 8) (b h : Fin 16) (r : Fin 2) (hh : h.val = 2 * n.val + r.val)

include hh

theorem pt_score (t : Fin 1024) : k0_pay40 (F := Ideal) (ptQ m c n) (ptK m c n) (ix3 b r t) = devScore m c b h t := by
  rw [score_apply]
  unfold devScore
  refine Finset.sum_congr rfl fun d _ => ?_
  rw [show ptK m c n (ix4 b r d t) = _ from blkK_apply m c n b h r d t hh,
    show ptQ m c n (ix4 b r d 0) = _ from qPair_apply n _ b h r d hh, scaledQ_apply]

theorem pt_top : k0_pay41 (F := Ideal) (ptQ m c n) (ptK m c n) (ix2 b r) = greatest (devScore m c b h) := by
  rw [top_apply]
  exact congrArg greatest (funext fun t => pt_score m c n b h r hh t)

theorem pt_sum : k0_pay43 (F := Ideal) (ptQ m c n) (ptK m c n) (ix2 b r) = weight (devScore m c b h) := by
  rw [sum_apply]
  unfold weight
  refine Finset.sum_congr rfl fun t _ => ?_
  rw [exp_apply, pt_score m c n b h r hh, pt_top m c n b h r hh]

theorem pt_acc (d : Fin 64) (j : Fin 128) (hj : j.val = 64 * r.val + d.val) :
    k0_pay44 (F := Ideal) k0_pay38 (ptQ m c n) (ptK m c n) (ptV m c n) (ix2 b j) = weighted (devScore m c b h) fun t => argV m c (ix4 b t h d) := by
  rw [acc_apply]
  unfold weighted
  have h1 : (⟨j.val / 64, by omega⟩ : Fin 2) = r := Fin.ext (by show j.val / 64 = r.val; omega)
  have h2 : (⟨j.val % 64, by omega⟩ : Fin 64) = d := Fin.ext (by show j.val % 64 = d.val; omega)
  refine Finset.sum_congr rfl fun t _ => ?_
  rw [h1, h2, exp_apply, pt_score m c n b h r hh, pt_top m c n b h r hh, show ptV m c n (ix4 b r d t) = _ from blkV_apply m c n b h r d t hh]

omit hh in
theorem top_eq : (parts (F := Ideal) m c).top (ix3 n b r)
    = topOf (F := Ideal) (grid0.coords (point n)) (scaledQ (F := Ideal) m c) (ptK m c n) (ValueIdx.ix3 (n0 := 1) (n1 := 16) (n2 := 2) 0 b r) := by
  unfold parts
  dsimp only
  rfl

theorem parts_top : (parts (F := Ideal) m c).top (ix3 n b r) = greatest (devScore m c b h) := by
  have e : ∀ x : FVec Ideal S16x2 .f32, shapeCast S1x16x2 x shapeCasts_S16x2_S1x16x2 (ix3 0 b r) = x (ix2 b r) := fun x => by pointwise
  rw [top_eq, ← ix3_eq_valueIdx, ← pt_top m c n b h r hh]
  unfold topOf k0_pay45
  exact e _

theorem parts_sum : (parts (F := Ideal) m c).sum (ix3 n b r) = weight (devScore m c b h) := by
  refine Eq.trans ?_ (pt_sum m c n b h r hh)
  show k0_pay1 (k0_pay43 (F := Ideal) (ptQ m c n) (ptK m c n)) (ValueIdx.ix3 (n0 := 1) (n1 := 16) (n2 := 2) 0 b r) = _
  rw [← ix3_eq_valueIdx]
  pointwise [k0_pay1]

theorem parts_acc (d : Fin 64) (j : Fin 1024) (hj : j.val = 64 * h.val + d.val) :
    (parts (F := Ideal) m c).acc (ix2 b j) = weighted (devScore m c b h) fun t => argV m c (ix4 b t h d) := by
  have hn : (⟨j.val / 128, by omega⟩ : Fin 8) = n := Fin.ext (by show j.val / 128 = n.val; omega)
  refine Eq.trans ?_ (pt_acc m c n b h r hh d ⟨j.val % 128, Nat.mod_lt _ (by decide)⟩ (by show j.val % 128 = _; omega))
  rw [← hn, ix2_eq_valueIdx]
  rfl

/-! ## The result -/

omit hh in
/-- What a device's tile of the result reads of its own parts and of its partner's. -/
theorem own_row (x : S8x16x2.Idx → EReal) : VecWindow.window x ![n.val, 0, 0] S1x16x2.size (inb_top n) (ix3 0 b r) = x (ix3 n b r) := by
  unfold VecWindow.window
  refine congrArg x (funext fun a => Fin.ext ?_)
  match a with
  | ⟨0, _⟩ => show n.val + 1 * 0 = n.val; omega
  | ⟨1, _⟩ => show 0 + 1 * b.val = b.val; omega
  | ⟨2, _⟩ => show 0 + 1 * r.val = r.val; omega

omit hh in
theorem sent_row (x y : S8x16x2.Idx → EReal) (s : Fin 2) :
    VecWindow.window (statWire (F := Ideal) x y) ![1, s.val, n.val, 0, 0] S1x1x1x16x2.size (inb_stat s n) (ix5 0 0 0 b r)
      = (if s.val = 0 then x else y) (ix3 n b r) := by
  have hx : ∀ z : S8x16x2.Idx → EReal, ∀ i : S8x16x2.Idx, (∀ a, (i a).val = (ix3 n b r a).val) → z i = z (ix3 n b r) :=
    fun z i h => congrArg z (funext fun a => Fin.ext (h a))
  unfold VecWindow.window statWire
  by_cases hs : s.val = 0
  · rw [if_pos hs]
    refine (if_pos (by show s.val + 1 * 0 = 0; omega)).trans (hx x _ fun a => ?_)
    match a with
    | ⟨0, _⟩ => show n.val + 1 * 0 = n.val; omega
    | ⟨1, _⟩ => show 0 + 1 * b.val = b.val; omega
    | ⟨2, _⟩ => show 0 + 1 * r.val = r.val; omega
  · rw [if_neg hs]
    refine (if_neg (by show ¬ s.val + 1 * 0 = 0; omega)).trans (hx y _ fun a => ?_)
    match a with
    | ⟨0, _⟩ => show n.val + 1 * 0 = n.val; omega
    | ⟨1, _⟩ => show 0 + 1 * b.val = b.val; omega
    | ⟨2, _⟩ => show 0 + 1 * r.val = r.val; omega

omit hh in
theorem own_tile (x : S16x1024.Idx → EReal) (i : Fin 128) (j : Fin 1024) (hj : j.val = 128 * n.val + i.val) :
    VecWindow.window x ![0, 128 * n.val] S16x128.size (inb_acc n) (ix2 b i) = x (ix2 b j) := by
  unfold VecWindow.window
  refine congrArg x (funext fun a => Fin.ext ?_)
  match a with
  | ⟨0, _⟩ => show 0 + 1 * b.val = b.val; omega
  | ⟨1, _⟩ => show 128 * n.val + 1 * i.val = j.val; omega

omit hh in
theorem sent_tile (x : S16x1024.Idx → EReal) (i : Fin 128) (j : Fin 1024) (hj : j.val = 128 * n.val + i.val) :
    VecWindow.window (accWire (F := Ideal) x) ![1, 0, 128 * n.val] S1x16x128.size (inb_wire n) (ix3 0 b i) = x (ix2 b j) := by
  unfold VecWindow.window accWire
  refine congrArg x (funext fun a => Fin.ext ?_)
  match a with
  | ⟨0, _⟩ => show 0 + 1 * b.val = b.val; omega
  | ⟨1, _⟩ => show 128 * n.val + 1 * i.val = j.val; omega

omit hh in
theorem tile_value (P P' : Partial Ideal) (i : Fin 128) (j : Fin 1024) (hi : i.val / 64 = r.val) (hj : j.val = 128 * n.val + i.val) :
    outTile P P' n (ix2 b i) = joinParts (P.top (ix3 n b r)) (P'.top (ix3 n b r)) (P.sum (ix3 n b r)) (P'.sum (ix3 n b r)) (P.acc (ix2 b j)) (P'.acc (ix2 b j)) := by
  unfold outTile
  rw [tile_apply _ _ _ _ _ _ b i r hi, own_row, own_row, sent_row, sent_row, own_tile n b P.acc i j hj, sent_tile n b P'.acc i j hj]
  rfl

/-- Device `c`'s result at sequence `b`, head `h` and coordinate `d`. -/
theorem result_apply (d : Fin 64) : (result (F := Ideal) m c : S16x1x16x64.Idx → EReal) (ix4 b 0 h d)
    = joinParts (greatest (devScore m c b h)) (greatest (devScore m (mate c) b h)) (weight (devScore m c b h)) (weight (devScore m (mate c) b h))
        (weighted (devScore m c b h) fun t => argV m c (ix4 b t h d)) (weighted (devScore m (mate c) b h) fun t => argV m (mate c) (ix4 b t h d)) := by
  have hn : (⟨(h.val * 64 + d.val) / 128, by omega⟩ : Fin 8) = n := Fin.ext (by show (h.val * 64 + d.val) / 128 = n.val; omega)
  unfold result
  pointwise
  refine Eq.trans ?_ ((tile_value n b r (parts m c) (parts m (mate c)) ⟨(h.val * 64 + d.val) % 128, Nat.mod_lt _ (by decide)⟩ ⟨h.val * 64 + d.val, by omega⟩
    (by show (h.val * 64 + d.val) % 128 / 64 = r.val; omega) (by show h.val * 64 + d.val = 128 * n.val + (h.val * 64 + d.val) % 128; omega)).trans ?_)
  · rw [← hn, ix2_eq_valueIdx, ix2_eq_valueIdx]
    rfl
  · rw [parts_top m c n b h r hh, parts_top m (mate c) n b h r hh, parts_sum m c n b h r hh, parts_sum m (mate c) n b h r hh,
      parts_acc m c n b h r hh d _ (by show h.val * 64 + d.val = 64 * h.val + d.val; omega),
      parts_acc m (mate c) n b h r hh d _ (by show h.val * 64 + d.val = 64 * h.val + d.val; omega)]

end Cert.FlashDecode
-- ==== Proof.Finite.lean ====
/-
  The precondition read back: the queries and the keys of every device are real numbers.
-/
module

public import proofs.«01_k».proof.Defs
public import proofs.«01_k».proof.Proof.DeviceValue
public import Idealize.ShloMosaic.Lib.ReduceAll

@[expose] public section

set_option maxRecDepth 16384

noncomputable section

namespace Cert.FlashDecode

open Cert.KernelIdeal Cert.KernelIdeal.Gen
open Idealize.ShloMosaic
open Idealize.ShloMosaic.TcCoe
open Idealize.SL.Sem

theorem both_one : ∀ a b : BitVec 1, IntOp.andi a b = 1#1 → a = 1#1 ∧ b = 1#1 := by decide

theorem of_bit : ∀ b : Bool, BitVec.ofBool b = 1#1 → b = true := by decide

theorem ofBits_inf : Ideal.ofBits .f32 0x7F800000#32 = (⊤ : EReal) := by simp [Ideal.ofBits, Ideal.ieee]

/-- An extended real whose absolute value is below infinity is a real number. -/
theorem real_of_abs_lt (x : EReal) (h : max x (-x) < ⊤) : ((x.toReal : ℝ) : EReal) = x := by
  refine EReal.coe_toReal (fun e => ?_) (fun e => ?_)
  · rw [e] at h; simp at h
  · rw [e] at h; simp at h

variable (m : (ℓ : Loc nD τ sig) → Buf (Elt Ideal) ℓ)
  [Cert.Pre_scores_finite_KernelIdeal.Facts]

instance : Subsingleton (Cert.Pre_scores_finite_KernelIdeal.S_.Idx) := ⟨fun _ _ => funext fun a => a.elim0⟩

theorem pre_reals (h : Pre_KernelIdeal_scores_finite_KernelIdeal m) (c : Dev nD) :
    (∀ i, (((argQ m c i).toReal : ℝ) : EReal) = argQ m c i) ∧ ∀ i, (((argK m c i).toReal : ℝ) : EReal) = argK m c i := by
  have e := congrFun (h c) ix0
  dsimp only [Cert.Pre_scores_finite_KernelIdeal.fn] at e
  obtain ⟨e1, e2⟩ := both_one _ _ e
  constructor
  · intro i
    have e3 := Host.reduce_andi_all _ _ _ _ _ e1 i
    pointwise at e3
    exact real_of_abs_lt _ (ofBits_inf ▸ of_decide_eq_true (of_bit _ e3))
  · intro i
    have e3 := Host.reduce_andi_all _ _ _ _ _ e2 i
    pointwise at e3
    exact real_of_abs_lt _ (ofBits_inf ▸ of_decide_eq_true (of_bit _ e3))

end Cert.FlashDecode
-- ==== Proof.RefValue.lean ====
/-
  The reference's value, read at an index over the extended reals: for each sequence and head, attention over all the keys.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.FlashDecode

open Cert.ReferenceIdeal Cert.ReferenceIdeal.Gen
open Idealize.ShloMosaic

/-- The scores, the weights and the result, as the reference computes them. -/
def refScores (q : S16x1x16x64.Idx → EReal) (k : S16x2048x16x64.Idx → EReal) : FVec Ideal S16x16x1x2048 .f32 :=
  mulf (F := Ideal) (Host.dotGeneral (F := Ideal) (φ₁ := .f32) (φ₂ := .f32) dot_S16x1x16x64_S16x2048x16x64_S16x16x1x2048_3_3_1_1_02_02 none q k)
    (broadcastInDim S16x16x1x2048 ![] bcast_S_S16x16x1x2048 (constant (F := Ideal) S_ .f32 0x3E000000#32))
def refTop (s : FVec Ideal S16x16x1x2048 .f32) : FVec Ideal S16x16x1 .f32 :=
  Host.reduce FloatOps.maximumf s (constant (F := Ideal) S_ .f32 0xFF800000#32) reducesTo_S16x16x1x2048_S16x16x1_d3 h_S_
def refExp (s : FVec Ideal S16x16x1x2048 .f32) : FVec Ideal S16x16x1x2048 .f32 :=
  Host.exp (F := Ideal) (subf (F := Ideal) s (broadcastInDim S16x16x1x2048 ![0, 1, 2, 3] bcast_S16x16x1x1_S16x16x1x2048_0_1_2_3
    (broadcastInDim S16x16x1x1 ![0, 1, 2] bcast_S16x16x1_S16x16x1x1_0_1_2 (refTop s))))
def refSum (e : FVec Ideal S16x16x1x2048 .f32) : FVec Ideal S16x16x1 .f32 :=
  Host.reduceAdd (F := Ideal) e (constant (F := Ideal) S_ .f32 0x00000000#32) reducesTo_S16x16x1x2048_S16x16x1_d3 h_S_
def refWeights (e : FVec Ideal S16x16x1x2048 .f32) : FVec Ideal S16x16x1x2048 .f32 :=
  Host.divf (F := Ideal) e (broadcastInDim S16x16x1x2048 ![0, 1, 2, 3] bcast_S16x16x1x1_S16x16x1x2048_0_1_2_3
    (broadcastInDim S16x16x1x1 ![0, 1, 2] bcast_S16x16x1_S16x16x1x1_0_1_2 (refSum e)))
def refOut (q : S16x1x16x64.Idx → EReal) (k v : S16x2048x16x64.Idx → EReal) : FVec Ideal S16x1x16x64 .f32 :=
  transpose S16x1x16x64 [0, 3, 1, 2] (Host.dotGeneral (F := Ideal) (φ₁ := .f32) (φ₂ := .f32) dot_S16x2048x16x64_S16x16x1x2048_S16x16x64x1_1_3_3_2_02_01 none v
    (refWeights (refExp (refScores q k)))) transposes_S16x16x64x1_S16x1x16x64_0_3_1_2

theorem ofBits_eighth : Ideal.ofBits .f32 0x3E000000#32 = ((1 / 8 : ℝ) : EReal) := by
  simp [Ideal.ofBits, Ideal.ieee]
  rw [← EReal.coe_mul]; norm_num

theorem refScores_apply (q : S16x1x16x64.Idx → EReal) (k : S16x2048x16x64.Idx → EReal) (b h : Fin 16) (t : Fin 2048) :
    refScores q k (ix4 b h 0 t) = (∑ d : Fin 64, q (ix4 b 0 h d) * k (ix4 b t h d)) * ((1 / 8 : ℝ) : EReal) := by
  rw [← ofBits_eighth]
  pointwise [refScores]

theorem refTop_apply (s : FVec Ideal S16x16x1x2048 .f32) (b h : Fin 16) : refTop s (ix3 b h 0) = greatest fun t : Fin 2048 => s (ix4 b h 0 t) := by
  pointwise [refTop]
  rw [show Ideal.ofBits .f32 0xFF800000#32 = (⊥ : EReal) by simp [Ideal.ofBits, Ideal.ieee]]; rfl

theorem refExp_apply (s : FVec Ideal S16x16x1x2048 .f32) (b h : Fin 16) (t : Fin 2048) :
    refExp s (ix4 b h 0 t) = Ideal.exp (s (ix4 b h 0 t) - refTop s (ix3 b h 0)) := by
  pointwise [refExp]

theorem refSum_apply (s : FVec Ideal S16x16x1x2048 .f32) (b h : Fin 16) : refSum s (ix3 b h 0) = ∑ t : Fin 2048, s (ix4 b h 0 t) := by
  pointwise [refSum]

theorem refWeights_apply (s : FVec Ideal S16x16x1x2048 .f32) (b h : Fin 16) (t : Fin 2048) :
    refWeights s (ix4 b h 0 t) = Ideal.div (s (ix4 b h 0 t)) (refSum s (ix3 b h 0)) := by
  pointwise [refWeights]

theorem refOut_apply (q : S16x1x16x64.Idx → EReal) (k v : S16x2048x16x64.Idx → EReal) (b h : Fin 16) (d : Fin 64) :
    refOut q k v (ix4 b 0 h d) = attend (fun t : Fin 2048 => refScores q k (ix4 b h 0 t)) fun t => v (ix4 b t h d) := by
  unfold attend weight
  pointwise [refOut]
  simp only [refWeights_apply, refExp_apply, refSum_apply, refTop_apply]

end Cert.FlashDecode
-- ==== Proof.Agree.lean ====
/-
  The kernel's value is the reference's. Each device holds half of the keys and its partner the other half, so the two parts that
  a device joins make up the attention over all the keys.
-/
module

public import proofs.«01_k».proof.Proof.Finite
public import proofs.«01_k».proof.Proof.RefValue
public import Idealize.ShloMosaic.Lib.LayoutAt

@[expose] public section

set_option maxRecDepth 16384

noncomputable section

namespace Cert.FlashDecode

open Cert.KernelIdeal Cert.KernelIdeal.Gen
open Idealize.ShloMosaic
open Idealize.ShloMosaic.TcCoe
open Idealize.SL.Sem

/-! ## The two halves of the keys -/

/-- The keys of the first or the second half. -/
def halves : Fin 1024 ⊕ Fin 1024 ≃ Fin 2048 := finSumFinEquiv (m := 1024) (n := 1024)

/-- Device `c`'s keys and then its partner's, as positions among all the keys. -/
def ownFirst (c : Dev nD) : Fin 1024 ⊕ Fin 1024 ≃ Fin 2048 := if c.val / 4 = 0 then halves else (Equiv.sumComm _ _).trans halves

theorem ownFirst_own : ∀ (c : Dev nD) (t : Fin 1024), (ownFirst c (.inl t)).val = 1024 * (c.val / 4) + t.val := by
  intro c t
  unfold ownFirst halves
  have hc : c.val < 8 := c.isLt
  split_ifs with h
  · show (finSumFinEquiv (m := 1024) (n := 1024) (.inl t)).val = _
    rw [finSumFinEquiv_apply_left, h]; simp
  · show (finSumFinEquiv (m := 1024) (n := 1024) (.inr t)).val = _
    rw [finSumFinEquiv_apply_right, show c.val / 4 = 1 by omega]; exact (Fin.val_natAdd 1024 t).trans (by omega)

theorem ownFirst_partner : ∀ (c : Dev nD) (t : Fin 1024), (ownFirst c (.inr t)).val = 1024 * ((mate c).val / 4) + t.val := by
  intro c t
  unfold ownFirst halves
  have hc : c.val < 8 := c.isLt
  have hm : (mate c).val = (c.val + 4) % 8 := rfl
  split_ifs with h
  · show (finSumFinEquiv (m := 1024) (n := 1024) (.inr t)).val = _
    rw [finSumFinEquiv_apply_right, show (mate c).val / 4 = 1 by omega]; exact (Fin.val_natAdd 1024 t).trans (by omega)
  · show (finSumFinEquiv (m := 1024) (n := 1024) (.inl t)).val = _
    rw [finSumFinEquiv_apply_left, show (mate c).val / 4 = 0 by omega]; simp

/-- Which block of the keys a device holds: its first mesh coordinate counts them, and no other axis is cut. -/
theorem rows_at : ∀ c : Dev nD, ∀ a : Fin 4, (Layout.meshBlock (r := 4) [2, 2, 2] ![[], [0], [], []] c (by decide) a).val = ![0, c.val / 4, 0, 0] a := by
  decide

/-- Device `c`'s block of the keys or of the values. -/
abbrev rowsOf (c : Dev nD) (X : (⟨4, ![16, 2048, 16, 64]⟩ : Shape).Idx → EReal) : S16x1024x16x64.Idx → EReal :=
  Layout.blockN ⟨4, ![16, 1024, 16, 64]⟩ ⟨4, ![16, 2048, 16, 64]⟩ (Layout.meshBlock [2, 2, 2] ![[], [0], [], []] c) X

theorem rowsOf_apply (c : Dev nD) (X : (⟨4, ![16, 2048, 16, 64]⟩ : Shape).Idx → EReal) (b h : Fin 16) (d : Fin 64) (t : Fin 1024) (T : Fin 2048)
    (hT : T.val = 1024 * (c.val / 4) + t.val) : rowsOf c X (ix4 b t h d) = X (ix4 b T h d) := by
  have hr := rows_at c
  unfold rowsOf
  rw [Layout.blockN_apply]
  refine congrArg X (funext fun a => Fin.ext ?_)
  rw [Layout.TilesN.idx_val]
  match a with
  | ⟨0, _⟩ =>
    show (Layout.meshBlock (r := 4) [2, 2, 2] ![[], [0], [], []] c _ 0).val * 16 + b.val = b.val
    rw [hr 0]; show 0 * 16 + b.val = b.val; omega
  | ⟨1, _⟩ =>
    show (Layout.meshBlock (r := 4) [2, 2, 2] ![[], [0], [], []] c _ 1).val * 1024 + t.val = T.val
    rw [hr 1]; show c.val / 4 * 1024 + t.val = T.val; omega
  | ⟨2, _⟩ =>
    show (Layout.meshBlock (r := 4) [2, 2, 2] ![[], [0], [], []] c _ 2).val * 16 + h.val = h.val
    rw [hr 2]; show 0 * 16 + h.val = h.val; omega
  | ⟨3, _⟩ =>
    show (Layout.meshBlock (r := 4) [2, 2, 2] ![[], [0], [], []] c _ 3).val * 64 + d.val = d.val
    rw [hr 3]; show 0 * 64 + d.val = d.val; omega

/-! ## The scores -/

/-- Two real matrices' score. -/
def realScore (q : S16x1x16x64.Idx → EReal) (k : (⟨4, ![16, 2048, 16, 64]⟩ : Shape).Idx → EReal) (b h : Fin 16) (T : Fin 2048) : ℝ :=
  (∑ d : Fin 64, (q (ix4 b 0 h d)).toReal * (k (ix4 b T h d)).toReal) * (1 / 8)

/-- The reference scales a score and the kernel its queries: over the reals it is the same. -/
theorem score_reals (x y : Fin 64 → ℝ) : ∑ d, ((y d : EReal) * ((x d : EReal) * ((1 / 8 : ℝ) : EReal))) = (((∑ d, x d * y d) * (1 / 8) : ℝ) : EReal) := by
  rw [Finset.sum_mul, coe_sum]
  refine Finset.sum_congr rfl fun d _ => ?_
  rw [← EReal.coe_mul, ← EReal.coe_mul]
  congr 1; ring

theorem score_reals' (x y : Fin 64 → ℝ) : (∑ d, (x d : EReal) * (y d : EReal)) * ((1 / 8 : ℝ) : EReal) = (((∑ d, x d * y d) * (1 / 8) : ℝ) : EReal) := by
  rw [EReal.coe_mul, coe_sum]
  simp only [EReal.coe_mul]

variable (m : (ℓ : Loc nD τ sig) → Buf (Elt Ideal) ℓ) (Q : S16x1x16x64.Idx → EReal) (K W : (⟨4, ![16, 2048, 16, 64]⟩ : Shape).Idx → EReal)
  (hQ : ∀ c, argQ m c = Q) (hK : ∀ c, argK m c = rowsOf c K) (hW : ∀ c, argV m c = rowsOf c W)
  (rQ : ∀ c i, (((argQ m c i).toReal : ℝ) : EReal) = argQ m c i) (rK : ∀ c i, (((argK m c i).toReal : ℝ) : EReal) = argK m c i)

include hQ hK rQ rK in
theorem devScore_real (c : Dev nD) (b h : Fin 16) (t : Fin 1024) (T : Fin 2048) (hT : T.val = 1024 * (c.val / 4) + t.val) :
    devScore m c b h t = (realScore Q K b h T : EReal) := by
  unfold realScore
  rw [← score_reals]
  unfold devScore
  refine Finset.sum_congr rfl fun d _ => ?_
  rw [← rQ, ← rK, hQ, hK, rowsOf_apply c K b h d t T hT]

include hK rK in
theorem keys_real (b h : Fin 16) (T : Fin 2048) (d : Fin 64) : (((K (ix4 b T h d)).toReal : ℝ) : EReal) = K (ix4 b T h d) := by
  have key : ∀ c : Dev nD, T.val = 1024 * (c.val / 4) + T.val % 1024 → (((K (ix4 b T h d)).toReal : ℝ) : EReal) = K (ix4 b T h d) := by
    intro c hT
    have e := rK c (ix4 b ⟨T.val % 1024, Nat.mod_lt _ (by decide)⟩ h d)
    rwa [hK, rowsOf_apply c K b h d _ T hT] at e
  by_cases hT : T.val < 1024
  · exact key 0 (by show T.val = 1024 * (0 / 4) + T.val % 1024; omega)
  · exact key 4 (by show T.val = 1024 * (4 / 4) + T.val % 1024; omega)

include hQ hK rQ rK in
theorem refScores_real (b h : Fin 16) (T : Fin 2048) : refScores Q K (ix4 b h 0 T) = (realScore Q K b h T : EReal) := by
  unfold realScore
  rw [refScores_apply, ← score_reals']
  refine congrArg (· * ((1 / 8 : ℝ) : EReal)) (Finset.sum_congr rfl fun d _ => ?_)
  rw [keys_real m K hK rK, ← hQ 0, rQ]

include hQ hK hW rQ rK in
/-- Every device's result is the reference's. -/
theorem result_eq_ref (c : Dev nD) : (result (F := Ideal) m c : S16x1x16x64.Idx → EReal) = refOut Q K W := by
  funext j
  obtain ⟨b, z, h, d, rfl⟩ : ∃ b z h d, j = ix4 (n0 := 16) (n1 := 1) (n2 := 16) (n3 := 64) b z h d := ⟨j 0, j 1, j 2, j 3, eq_ix4 j⟩
  obtain rfl : z = 0 := Subsingleton.elim _ _
  rw [result_apply m c ⟨h.val / 2, by omega⟩ b h ⟨h.val % 2, by omega⟩ (by show h.val = 2 * (h.val / 2) + h.val % 2; omega) d, refOut_apply]
  have e₁ : devScore m c b h = fun t => (realScore Q K b h (ownFirst c (.inl t)) : EReal) :=
    funext fun t => devScore_real m Q K hQ hK rQ rK c b h t _ (ownFirst_own c t)
  have e₂ : devScore m (mate c) b h = fun t => (realScore Q K b h (ownFirst c (.inr t)) : EReal) :=
    funext fun t => devScore_real m Q K hQ hK rQ rK (mate c) b h t _ (ownFirst_partner c t)
  have v₁ : (fun t => argV m c (ix4 b t h d)) = fun t => W (ix4 b (ownFirst c (.inl t)) h d) :=
    funext fun t => by rw [hW, rowsOf_apply c W b h d t _ (ownFirst_own c t)]
  have v₂ : (fun t => argV m (mate c) (ix4 b t h d)) = fun t => W (ix4 b (ownFirst c (.inr t)) h d) :=
    funext fun t => by rw [hW, rowsOf_apply (mate c) W b h d t _ (ownFirst_partner c t)]
  rw [e₁, e₂, v₁, v₂, join_eq_attend (ownFirst c) (realScore Q K b h) fun t => W (ix4 b t h d)]
  congr 1
  exact funext fun T => (refScores_real m Q K hQ hK rQ rK b h T).symm

end Cert.FlashDecode
-- ==== Proof.lean ====
/-
  The claims proved: the runs of the two programs and of the reference, with their arguments and counters, and the equality of
  the kernel's result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Outcome
public import proofs.«01_k».proof.Proof.Agree
public import Idealize.ShloMosaic.Adequacy
public import Idealize.ShloMosaic.Init

@[expose] public section

noncomputable section

namespace Cert.Proof

open Idealize.ShloMosaic Idealize.SL.Sem

/-- The two programs' kernels are one text: their body tables agree label by label. -/
theorem defs_eq : @Cert.Kernel.defs Bits _ _ = @Cert.KernelIdeal.defs Bits _ _ := by
  have h : @Cert.Kernel.defs₀ Bits _ _ = @Cert.KernelIdeal.defs₀ Bits _ _ := by
    unfold Cert.Kernel.defs₀ Cert.KernelIdeal.defs₀
    refine congrArg Defs.onTc (funext fun l => funext fun a => ?_)
    fin_cases l
    rfl
  unfold Cert.Kernel.defs Cert.KernelIdeal.defs
  exact congrArg (Pipeline.defs (Cert.KernelIdeal.pcfgs (F := Bits))) h

theorem frame_kernel : Cert.quiescent_Kernel := by
  intro m ρ _
  rw [defs_eq]
  exact (θ_run Cert.KernelIdeal.defs _ _).mono (fun _ h => ⟨fun c => ⟨(h.1 c).1, (h.1 c).2.1, (h.1 c).2.2.1⟩, h.2⟩)
    (Cert.FlashDecode.run_main (F := Bits) m ρ)

theorem frame_ideal : Cert.quiescent_KernelIdeal := fun m ρ _ => (θ_run Cert.KernelIdeal.defs _ _).mono
  (fun _ h => ⟨fun c => ⟨(h.1 c).1, (h.1 c).2.1, (h.1 c).2.2.1⟩, h.2⟩) (Cert.FlashDecode.run_main (F := Ideal) m ρ)

theorem frame_reference : Cert.quiescent_ReferenceIdeal := fun m ρ _ => (θ_run Cert.ReferenceIdeal.defs _ _).mono
  (fun r h => ⟨fun c => (h c).2, sem_eq_zero_of_no_sems (by decide) r.2⟩) (Cert.ReferenceIdeal.Value.run (F := Ideal) m ρ)

/-- The shape relations that the precondition's operations take, for a device's blocks and for the whole arrays. -/
instance pre_facts : Cert.Pre_scores_finite_KernelIdeal.Facts := by constructor <;> decide
instance pre_facts_whole : Cert.Pre_scores_finite_ReferenceIdeal.Facts := by constructor <;> decide

/-- The kernel's result on every device is the reference's: attention over all the keys. -/
theorem value : Cert.algebraic_KernelIdeal_ReferenceIdeal_pre_scores_finite_KernelIdeal := by
  intro m g m' g' hpre hargs
  have hr := fun c => Cert.FlashDecode.pre_reals m hpre c
  refine ⟨_, (θ_run Cert.KernelIdeal.defs _ _).mono (fun r h c => ⟨(h.1 c).2.2.2.trans ?_, (h.1 c).1, (h.1 c).2.1, (h.1 c).2.2.1⟩)
      (Cert.FlashDecode.run_main (F := Ideal) m g),
    (θ_run Cert.ReferenceIdeal.defs _ _).mono (fun r h => h 0) (Cert.ReferenceIdeal.Value.run (F := Ideal) m' g')⟩
  exact Cert.FlashDecode.result_eq_ref m _ _ _ (fun c => (hargs c).1) (fun c => (hargs c).2.1) (fun c => (hargs c).2.2)
    (fun c => (hr c).1) (fun c => (hr c).2) c

theorem claim : Cert.Claim := ⟨Cert.Kernel.Gen.facts, Cert.KernelIdeal.Gen.facts, Cert.ReferenceIdeal.Gen.facts, pre_facts, pre_facts_whole,
  frame_kernel, frame_ideal, fun m ρ _ => frame_ideal m ρ trivial, frame_reference, fun m ρ _ => frame_reference m ρ trivial, trivial, value⟩

end Cert.Proof

end
